-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_decided [hKernelIdeal : Cert.KernelIdeal.Facts] [hReferenceIdeal : Cert.ReferenceIdeal.Facts] [hOn_decided : Cert.On_decided.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16384, 64]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v6) i = v0 c i)
          ∧ (∀ i : (⟨2, ![16384, 64]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v3_1) i = v1 c i)
          ∧ (∀ i : (⟨2, ![16384, 64]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.KernelIdeal.nD Cert.KernelIdeal.τ).loc Cert.KernelIdeal.main_v3_2) i = v2 c i)
          ∧ (∀ i : (⟨2, ![16384, 64]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 i = 1#1 → r.2.mem ((c.tc : Thread Cert.KernelIdeal.nD Cert.KernelIdeal.τ).loc Cert.KernelIdeal.main_v3_2) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16384, 64]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v24) i = v0 c i)
          ∧ (∀ i : (⟨2, ![16384, 64]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v39) i = v1 c i)
          ∧ (∀ i : (⟨2, ![16384, 64]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.ReferenceIdeal.nD Cert.ReferenceIdeal.τ).loc Cert.ReferenceIdeal.main_v15) i = v2 c i)
          ∧ (∀ i : (⟨2, ![16384, 64]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 i = 1#1 → r.2.mem ((c.tc : Thread Cert.ReferenceIdeal.nD Cert.ReferenceIdeal.τ).loc Cert.ReferenceIdeal.main_v19) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_decided : Cert.On_decided.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_decided (hKernelIdeal := hKernelIdeal) (hReferenceIdeal := hReferenceIdeal) (hOn_decided := hOn_decided)
-- ==== On_decided.lean ====
abbrev S16384x2048 : Shape := ⟨2, ![16384, 2048]⟩
abbrev S64x2x2048 : Shape := ⟨3, ![64, 2, 2048]⟩
abbrev S_ : Shape := ⟨0, ![]⟩
abbrev S16384 : Shape := ⟨1, ![16384]⟩
abbrev S16384x1 : Shape := ⟨2, ![16384, 1]⟩
abbrev S64x2 : Shape := ⟨2, ![64, 2]⟩
abbrev S64x2x1 : Shape := ⟨3, ![64, 2, 1]⟩
abbrev S16384x64x2 : Shape := ⟨3, ![16384, 64, 2]⟩
abbrev S16384x64 : Shape := ⟨2, ![16384, 64]⟩
abbrev S16384x9 : Shape := ⟨2, ![16384, 9]⟩
abbrev S16384x8 : Shape := ⟨2, ![16384, 8]⟩

class Facts : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x2048_0_1 : S16384x1.BroadcastsInDim S16384x2048 (![0, 1] : Fin 2 → Fin S16384x2048.rank)
  reducesTo_S64x2x2048_S64x2_d2 : S64x2x2048.ReducesTo [2] S64x2
  bcast_S64x2_S64x2x1_0_1 : S64x2.BroadcastsInDim S64x2x1 (![0, 1] : Fin 2 → Fin S64x2x1.rank)
  bcast_S_S64x2x1 : S_.BroadcastsInDim S64x2x1 (![] : Fin 0 → Fin S64x2x1.rank)
  bcast_S64x2x1_S64x2x2048_0_1_2 : S64x2x1.BroadcastsInDim S64x2x2048 (![0, 1, 2] : Fin 3 → Fin S64x2x2048.rank)
  reducesTo_S16384x64x2_S16384x64_d2 : S16384x64x2.ReducesTo [2] S16384x64
  bcast_S_S16384x64 : S_.BroadcastsInDim S16384x64 (![] : Fin 0 → Fin S16384x64.rank)
  sliceFits_S16384x64_S16384x9 : S16384x64.Slices (fun _ => 0) S16384x9
  slices_S16384x9_S16384x8_0_1 : S16384x9.Slices ![0, 1] S16384x8
  slices_S16384x9_S16384x8_0_0 : S16384x9.Slices ![0, 0] S16384x8
  reducesTo_S16384x8_S16384_d1 : S16384x8.ReducesTo [1] S16384
  bcast_S16384x1_S16384x64_0_1 : S16384x1.BroadcastsInDim S16384x64 (![0, 1] : Fin 2 → Fin S16384x64.rank)
  dot_S16384x2048_S64x2x2048_S16384x64x2_1_2_0_01_n_n_wf : DotDims.WF S16384x2048 S64x2x2048 S16384x64x2 [1] [2] [0] [0, 1] [] []

variable [Facts]

def dot_S16384x2048_S64x2x2048_S16384x64x2_1_2_0_01_n_n : DotDims S16384x2048 S64x2x2048 S16384x64x2 where
  lhsContracting := [1]
  rhsContracting := [2]
  lhsNonContracting := [0]
  rhsNonContracting := [0, 1]
  lhsBatch := []
  rhsBatch := []
  wf := dot_S16384x2048_S64x2x2048_S16384x64x2_1_2_0_01_n_n_wf
def fn_part1 {F : FTy → Type} [FloatOps F] (main_v18 : FVec F S16384x64 .f32) : IVec S16384x64 1 × IVec S16384x64 1 × IVec S16384x64 1 × IVec S16384x64 1 :=
  let main_v19 : FVec F S16384x64 .f32 := Host.log main_v18
  let main_cst_4 : FVec F S_ .f32 := constant S_ .f32 0x41200000#32
  let main_v20 : FVec F S16384x64 .f32 := broadcastInDim S16384x64 ![] bcast_S_S16384x64 main_cst_4
  let main_v21 : FVec F S16384x64 .f32 := mulf main_v20 main_v19
  let main_values : FVec F S16384x9 .f32 := (fun x => (Host.topK S16384x9 1 (FloatOps.cmpfTotal .gt) x sliceFits_S16384x64_S16384x9).1) main_v21
  let main_indices : IVec S16384x9 32 := (fun x => (Host.topK S16384x9 1 (FloatOps.cmpfTotal .gt) x sliceFits_S16384x64_S16384x9).2) main_v21
  let main_v22 : FVec F S16384x8 .f32 := (extractStridedSlice S16384x8 ![0, 1] · slices_S16384x9_S16384x8_0_1) main_values
  let main_v23 : FVec F S16384x8 .f32 := (extractStridedSlice S16384x8 ![0, 0] · slices_S16384x9_S16384x8_0_0) main_values
  let main_v24 : IVec S16384x8 1 := cmpf .oeq main_v22 main_v23
  let main_v25 : FVec F S16384x8 .f32 := uitofp .f32 main_v24
  let main_cst_5 : FVec F S_ .f32 := constant S_ .f32 0x00000000#32
  let main_v26 : FVec F S16384 .f32 := (fun x v => Host.reduceAdd x v reducesTo_S16384x8_S16384_d1 h_S_) main_v25 main_cst_5
  let main_v27 : FVec F S16384x1 .f32 := broadcastInDim S16384x1 ![0] bcast_S16384_S16384x1_0 main_v26
  let main_cst_6 : FVec F S_ .f32 := constant S_ .f32 0x3F800000#32
  let main_v28 : FVec F S16384x1 .f32 := broadcastInDim S16384x1 ![] bcast_S_S16384x1 main_cst_6
  let main_v29 : IVec S16384x1 1 := cmpf .ole main_v27 main_v28
  let main_v30 : IVec S16384x64 1 := broadcastInDim S16384x64 ![0, 1] bcast_S16384x1_S16384x64_0_1 main_v29
  let main_c : IVec S_ 1 := constantI S_ 1 1#1
  let main_v31 : IVec S16384x64 1 := broadcastInDim S16384x64 ![] bcast_S_S16384x64 main_c
  (main_v30, main_v31, main_v31, main_v31)

def fn {F : FTy → Type} [FloatOps F] (main_arg0 : FVec F S16384x2048 .f32) (main_arg1 : FVec F S64x2x2048 .f32) : IVec S16384x64 1 × IVec S16384x64 1 × IVec S16384x64 1 × IVec S16384x64 1 :=
  let main_v0 : FVec F S16384x2048 .f32 := mulf main_arg0 main_arg0
  let main_cst : FVec F S_ .f32 := constant S_ .f32 0x00000000#32
  let main_v1 : FVec F S16384 .f32 := (fun x v => Host.reduceAdd x v reducesTo_S16384x2048_S16384_d1 h_S_) main_v0 main_cst
  let main_v2 : FVec F S16384x1 .f32 := broadcastInDim S16384x1 ![0] bcast_S16384_S16384x1_0 main_v1
  let main_v3 : FVec F S16384x1 .f32 := Host.sqrt main_v2
  let main_cst_0 : FVec F S_ .f32 := constant S_ .f32 0x358637BD#32
  let main_v4 : FVec F S16384x1 .f32 := broadcastInDim S16384x1 ![] bcast_S_S16384x1 main_cst_0
  let main_v5 : FVec F S16384x1 .f32 := addf main_v3 main_v4
  let main_v6 : FVec F S16384x2048 .f32 := broadcastInDim S16384x2048 ![0, 1] bcast_S16384x1_S16384x2048_0_1 main_v5
  let main_v7 : FVec F S16384x2048 .f32 := Host.divf main_arg0 main_v6
  let main_v8 : FVec F S64x2x2048 .f32 := mulf main_arg1 main_arg1
  let main_cst_1 : FVec F S_ .f32 := constant S_ .f32 0x00000000#32
  let main_v9 : FVec F S64x2 .f32 := (fun x v => Host.reduceAdd x v reducesTo_S64x2x2048_S64x2_d2 h_S_) main_v8 main_cst_1
  let main_v10 : FVec F S64x2x1 .f32 := broadcastInDim S64x2x1 ![0, 1] bcast_S64x2_S64x2x1_0_1 main_v9
  let main_v11 : FVec F S64x2x1 .f32 := Host.sqrt main_v10
  let main_cst_2 : FVec F S_ .f32 := constant S_ .f32 0x358637BD#32
  let main_v12 : FVec F S64x2x1 .f32 := broadcastInDim S64x2x1 ![] bcast_S_S64x2x1 main_cst_2
  let main_v13 : FVec F S64x2x1 .f32 := addf main_v11 main_v12
  let main_v14 : FVec F S64x2x2048 .f32 := broadcastInDim S64x2x2048 ![0, 1, 2] bcast_S64x2x1_S64x2x2048_0_1_2 main_v13
  let main_v15 : FVec F S64x2x2048 .f32 := Host.divf main_arg1 main_v14
  let main_v16 : FVec F S16384x64x2 .f32 := (fun l r => Host.dotGeneral dot_S16384x2048_S64x2x2048_S16384x64x2_1_2_0_01_n_n none l r) main_v7 main_v15
  let main_v17 : FVec F S16384x64x2 .f32 := Host.exp main_v16
  let main_cst_3 : FVec F S_ .f32 := constant S_ .f32 0x00000000#32
  let main_v18 : FVec F S16384x64 .f32 := (fun x v => Host.reduceAdd x v reducesTo_S16384x64x2_S16384x64_d2 h_S_) main_v17 main_cst_3
  fn_part1 (F := F) main_v18
-- ==== Kernel.lean ====
abbrev S16384x2048 : Shape := ⟨2, ![16384, 2048]⟩
abbrev S64x2x2048 : Shape := ⟨3, ![64, 2, 2048]⟩
abbrev S2x64x2048 : Shape := ⟨3, ![2, 64, 2048]⟩
abbrev S128x2048 : Shape := ⟨2, ![128, 2048]⟩
abbrev S128 : Shape := ⟨1, ![128]⟩
abbrev S128x1 : Shape := ⟨2, ![128, 1]⟩
abbrev S16384x64 : Shape := ⟨2, ![16384, 64]⟩
abbrev S1024x2048 : Shape := ⟨2, ![1024, 2048]⟩
abbrev S1024x64 : Shape := ⟨2, ![1024, 64]⟩
abbrev S1024x128 : Shape := ⟨2, ![1024, 128]⟩
abbrev S1024 : Shape := ⟨1, ![1024]⟩
abbrev S1024x1 : Shape := ⟨2, ![1024, 1]⟩
abbrev S_ : Shape := ⟨0, ![]⟩

abbrev nBuf : Space → Nat
  | .hbm => 12
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S64x2x2048, .f32⟩
  | .hbm, ⟨2, _⟩ => ⟨S2x64x2048, .f32⟩
  | .hbm, ⟨3, _⟩ => ⟨S128x2048, .f32⟩
  | .hbm, ⟨4, _⟩ => ⟨S128x2048, .f32⟩
  | .hbm, ⟨5, _⟩ => ⟨S16384x64, .i32⟩
  | .hbm, ⟨6, _⟩ => ⟨S16384x64, .f32⟩
  | .hbm, ⟨7, _⟩ => ⟨S16384x64, .f32⟩
  | .hbm, ⟨8, _⟩ => ⟨S_, .i32⟩
  | .hbm, ⟨9, _⟩ => ⟨S16384x64, .i32⟩
  | .hbm, ⟨10, _⟩ => ⟨S16384x64, .i1⟩
  | .hbm, ⟨11, _⟩ => ⟨S16384x64, .i1⟩
  | .local _ .vmem, ⟨0, _⟩ => ⟨S128x2048, .f32⟩
  | .local _ .vmem, ⟨1, _⟩ => ⟨S128x2048, .f32⟩
  | .local _ .vmem, ⟨2, _⟩ => ⟨S1024x2048, .f32⟩
  | .local _ .vmem, ⟨3, _⟩ => ⟨S1024x2048, .f32⟩
  | .local _ .vmem, ⟨4, _⟩ => ⟨S128x2048, .f32⟩
  | .local _ .vmem, ⟨5, _⟩ => ⟨S1024x64, .i32⟩
  | .local _ .vmem, ⟨6, _⟩ => ⟨S1024x64, .i32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_scratch0 : Ref sig .tc := ⟨.vmem, 11, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := .none

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![17], ![false]⟩

def cc1_transform_0 (i : grid1.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_3 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_4 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x64 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S16384x2048 : Shape := ⟨2, ![16384, 2048]⟩
abbrev S64x2x2048 : Shape := ⟨3, ![64, 2, 2048]⟩
abbrev S_ : Shape := ⟨0, ![]⟩
abbrev S16384 : Shape := ⟨1, ![16384]⟩
abbrev S16384x1 : Shape := ⟨2, ![16384, 1]⟩
abbrev S64x2 : Shape := ⟨2, ![64, 2]⟩
abbrev S64x2x1 : Shape := ⟨3, ![64, 2, 1]⟩
abbrev S16384x64x2 : Shape := ⟨3, ![16384, 64, 2]⟩
abbrev S16384x64 : Shape := ⟨2, ![16384, 64]⟩
abbrev S16384x8 : Shape := ⟨2, ![16384, 8]⟩
abbrev S16384x8x1 : Shape := ⟨3, ![16384, 8, 1]⟩
abbrev S1x1x64 : Shape := ⟨3, ![1, 1, 64]⟩
abbrev S16384x8x64 : Shape := ⟨3, ![16384, 8, 64]⟩

abbrev nBuf : Space → Nat
  | .hbm => 70
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2x2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x2048, .f32⟩
  | .hbm, ⟨11, _⟩ => ⟨S16384x2048, .f32⟩
  | .hbm, ⟨12, _⟩ => ⟨S64x2x2048, .f32⟩
  | .hbm, ⟨13, _⟩ => ⟨S_, .f32⟩
  | .hbm, ⟨14, _⟩ => ⟨S64x2, .f32⟩
  | .hbm, ⟨15, _⟩ => ⟨S64x2x1, .f32⟩
  | .hbm, ⟨16, _⟩ => ⟨S64x2x1, .f32⟩
  | .hbm, ⟨17, _⟩ => ⟨S_, .f32⟩
  | .hbm, ⟨18, _⟩ => ⟨S64x2x1, .f32⟩
  | .hbm, ⟨19, _⟩ => ⟨S64x2x1, .f32⟩
  | .hbm, ⟨20, _⟩ => ⟨S64x2x2048, .f32⟩
  | .hbm, ⟨21, _⟩ => ⟨S64x2x2048, .f32⟩
  | .hbm, ⟨22, _⟩ => ⟨S16384x64x2, .f32⟩
  | .hbm, ⟨23, _⟩ => ⟨S16384x64x2, .f32⟩
  | .hbm, ⟨24, _⟩ => ⟨S_, .f32⟩
  | .hbm, ⟨25, _⟩ => ⟨S16384x64, .f32⟩
  | .hbm, ⟨26, _⟩ => ⟨S16384x64, .f32⟩
  | .hbm, ⟨27, _⟩ => ⟨S_, .f32⟩
  | .hbm, ⟨28, _⟩ => ⟨S16384x64, .f32⟩
  | .hbm, ⟨29, _⟩ => ⟨S16384x64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16384x64, .f32⟩
  | .hbm, ⟨35, _⟩ => ⟨S16384x64, .f32⟩
  | .hbm, ⟨36, _⟩ => ⟨S16384x8, .f32⟩
  | .hbm, ⟨37, _⟩ => ⟨S16384x8, .i32⟩
  | .hbm, ⟨38, _⟩ => ⟨S16384x8x1, .i32⟩
  | .hbm, ⟨39, _⟩ => ⟨S1x1x64, .i32⟩
  | .hbm, ⟨40, _⟩ => ⟨S16384x8x64, .i32⟩
  | .hbm, ⟨41, _⟩ => ⟨S16384x8x64, .i32⟩
  | .hbm, ⟨42, _⟩ => ⟨S16384x8x64, .i1⟩
  | .hbm, ⟨43, _⟩ => ⟨S16384x8x64, .f32⟩
  | .hbm, ⟨44, _⟩ => ⟨S_, .f32⟩
  | .hbm, ⟨45, _⟩ => ⟨S16384x64, .f32⟩
  | .hbm, ⟨46, _⟩ => ⟨S_, .f32⟩
  | .hbm, ⟨47, _⟩ => ⟨S16384x64, .f32⟩
  | .hbm, ⟨48, _⟩ => ⟨S16384x64, .i1⟩
  | .hbm, ⟨49, _⟩ => ⟨S16384x64, .i1⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S16384x64, .f32⟩
  | .hbm, ⟨55, _⟩ => ⟨S16384x64, .f32⟩
  | .hbm, ⟨56, _⟩ => ⟨S_, .f32⟩
  | .hbm, ⟨57, _⟩ => ⟨S16384, .f32⟩
  | .hbm, ⟨58, _⟩ => ⟨S_, .f32⟩
  | .hbm, ⟨59, _⟩ => ⟨S16384, .f32⟩
  | .hbm, ⟨60, _⟩ => ⟨S16384, .f32⟩
  | .hbm, ⟨61, _⟩ => ⟨S16384x1, .f32⟩
  | .hbm, ⟨62, _⟩ => ⟨S16384x64, .f32⟩
  | .hbm, ⟨63, _⟩ => ⟨S16384x64, .f32⟩
  | .hbm, ⟨64, _⟩ => ⟨S16384x64, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S16384x64, .f32⟩
  | .hbm, ⟨69, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_values : Ref sig .tc := ⟨.hbm, 36, rfl⟩
abbrev main_indices : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_cst_6 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_7 : Ref sig .tc := ⟨.hbm, 50, rfl⟩
abbrev main_cst_8 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_9 : Ref sig .tc := ⟨.hbm, 56, rfl⟩
abbrev main_v29 : Ref sig .tc := ⟨.hbm, 57, rfl⟩
abbrev main_cst_10 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_11 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩

abbrev nD : Nat := 1
abbrev τ : Topo := Topo.v7x

variable {F : FTy → Type} [FloatOps F]
-- ==== Proof.Body.lean ====
/- The two kernel calls of the optimised program, each at the buffer contents `V` it is entered with: what a block
   holds, what one run of the body leaves, the proof data of the pipeline and the body's obligation. The second call
   keeps the similarities of a block from one grid point to the next in a scratch buffer, and at the first point
   writes what it makes of the scratch buffer's first contents, so its outputs are held to a predicate: after any
   point but the first they are the stated function of the preceding point's block. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp

@[expose] public section

set_option maxRecDepth 16384

noncomputable section

namespace Cert.KernelIdeal.Router

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The first call: the prototypes normalised -/

/-- Window `w`'s block of the first call at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole of a buffer of the prototypes' shape. -/
abbrev rP : Rect S128x2048 := Rect.unit (s := S128x2048) ![0, 0] S128x2048.size inb_S128x2048_S128x2048_0_0

/-- What the first call leaves in its output block. -/
def protoOut (x : Vec F S128x2048 .f32) : Vec F S128x2048 .f32 := View.canon [⟨rP, k0_pay1 (View.ld x rP)⟩]

theorem cover_protoOut (p : Vec F S128x2048 .f32) (y : S128x2048.Idx) :
    ∃ pc ∈ ([⟨rP, p⟩] : List (View.Piece (Elt F) S128x2048 .f32)), y ∈ pc.1.set :=
  View.cover_of_tiled [⟨rP, p⟩] S128x2048.size (by rfl) y

set_option maxHeartbeats 1000000 in
/-- The first call's body, run on whole buffers. -/
theorem sound_kernel0 (c : Dev nD) (E : Set ℕ) (arg0 : Memref sig .tc .vmem S128x2048 .f32) (harg0 : arg0.IsWhole) (arg1 : Memref sig .tc .vmem S128x2048 .f32) (harg1 : arg1.IsWhole)
    (x : Vec F S128x2048 .f32) (K : PUnit → sProp 𝕄) :
    iprop(owns (c : Thread nD τ) arg0 fullShare x ∗ (∃ d, owns (c : Thread nD τ) arg1 fullShare d)
        ∗ (iprop(owns (c : Thread nD τ) arg0 fullShare x ∗ owns (c : Thread nD τ) arg1 fullShare (protoOut x)) -∗ K ⟨⟩))
      ⊢ wp frame (wpE (defs₀ (F := F)) Variants.none c none) E (cc0__proto_norm_block arg0 harg0 arg1 harg1) K := by
  simp only [cc0__proto_norm_block_eq_skeleton]; unfold cc0__proto_norm_block_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_protoOut _)

/-- The first call's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => protoOut (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = protoOut (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! ## The second call: the router -/

/-- Window `w`'s block of the second call at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole of a block of tokens, of a block of results and of the scratch buffer. -/
abbrev rH : Rect S1024x2048 := Rect.unit (s := S1024x2048) ![0, 0] S1024x2048.size inb_S1024x2048_S1024x2048_0_0
abbrev rO : Rect S1024x64 := Rect.unit (s := S1024x64) ![0, 0] S1024x64.size inb_S1024x64_S1024x64_0_0
abbrev rS : Rect S1024x128 := Rect.unit (s := S1024x128) ![0, 0] S1024x128.size inb_S1024x128_S1024x128_0_0

/-- The similarities of a block of tokens, as left in the scratch buffer. -/
def simsOut (x : Vec F S1024x2048 .f32) (p : Vec F S128x2048 .f32) : Vec F S1024x128 .f32 :=
  View.canon [⟨rS, k1_pay1 (View.ld x rH) (View.ld p rP)⟩]
/-- The mask, the probabilities and the logits made of a block of similarities. -/
def maskOut (s : Vec F S1024x128 .f32) : Vec F S1024x64 .i32 :=
  View.canon [⟨rO, k1_pay10 (k1_pay6 (View.ld s rS)) (k1_pay8 (View.ld s rS)) (k1_pay9 (View.ld s rS))⟩]
def probsOut (s : Vec F S1024x128 .f32) : Vec F S1024x64 .f32 := View.canon [⟨rO, k1_pay7 (View.ld s rS)⟩]
def logitsOut (s : Vec F S1024x128 .f32) : Vec F S1024x64 .f32 := View.canon [⟨rO, k1_pay6 (View.ld s rS)⟩]

theorem cover_out {e : EltTy} (p : Vec F S1024x64 e) (y : S1024x64.Idx) :
    ∃ pc ∈ ([⟨rO, p⟩] : List (View.Piece (Elt F) S1024x64 e)), y ∈ pc.1.set :=
  View.cover_of_tiled [⟨rO, p⟩] S1024x64.size (by rfl) y
theorem cover_sims (p : Vec F S1024x128 .f32) (y : S1024x128.Idx) :
    ∃ pc ∈ ([⟨rS, p⟩] : List (View.Piece (Elt F) S1024x128 .f32)), y ∈ pc.1.set :=
  View.cover_of_tiled [⟨rS, p⟩] S1024x128.size (by rfl) y

set_option maxHeartbeats 2000000 in
/-- The second call's body, run on whole buffers: the outputs are made of the similarities found in the scratch
    buffer, which is left at the similarities of this point's block. -/
theorem sound_kernel1 (c : Dev nD) (E : Set ℕ) (i : grid1.Coords) (arg1 : Memref sig .tc .vmem S1024x2048 .f32) (harg1 : arg1.IsWhole) (arg2 : Memref sig .tc .vmem S128x2048 .f32) (harg2 : arg2.IsWhole) (arg3 : Memref sig .tc .vmem S1024x64 .i32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x128 .f32) (harg6 : arg6.IsWhole)
    (x : Vec F S1024x2048 .f32) (p : Vec F S128x2048 .f32) (s : Vec F S1024x128 .f32) (K : PUnit → sProp 𝕄) :
    iprop(owns (c : Thread nD τ) arg1 fullShare x ∗ owns (c : Thread nD τ) arg2 fullShare p ∗ (∃ d, owns (c : Thread nD τ) arg3 fullShare d) ∗ (∃ d, owns (c : Thread nD τ) arg4 fullShare d) ∗ (∃ d, owns (c : Thread nD τ) arg5 fullShare d) ∗ owns (c : Thread nD τ) arg6 fullShare s
        ∗ (iprop(owns (c : Thread nD τ) arg1 fullShare x ∗ owns (c : Thread nD τ) arg2 fullShare p ∗ owns (c : Thread nD τ) arg3 fullShare (maskOut s) ∗ owns (c : Thread nD τ) arg4 fullShare (probsOut s) ∗ owns (c : Thread nD τ) arg5 fullShare (logitsOut s) ∗ owns (c : Thread nD τ) arg6 fullShare (simsOut x p)) -∗ K ⟨⟩))
      ⊢ wp frame (wpE (defs₀ (F := F)) Variants.none c none) E (cc1__router_block i arg1 harg1 arg2 harg2 arg3 harg3 arg4 harg4 arg5 harg5 arg6 harg6) K := by
  simp only [cc1__router_block_eq_skeleton]; unfold cc1__router_block_skel
  simp only [k1_part1_eq_skeleton, k1_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, Hk⟩
  subst hf0 hf1 hf5
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover_out _)).trans ?_
    rfl
  isplitl [H3]
  · iexists _; isplitr
    swap; · iexact H3
    ipureintro
    refine (View.read_writes_eq_canon _ _ _ (cover_out _)).trans ?_
    rfl
  isplitl [H4]
  · iexists _; isplitr
    swap; · iexact H4
    ipureintro
    refine (View.read_writes_eq_canon _ _ _ (cover_out _)).trans ?_
    rfl
  iexists _; isplitr
  swap; · iexact H5
  ipureintro
  refine (View.read_writes_eq_canon _ _ _ (cover_sims _)).trans ?_
  rfl

/-- The point before a point, or the first. -/
def prev {n : ℕ} (hn : n ≤ cfg1.N) (t : Fin (n + 1)) : Fin cfg1.N :=
  ⟨t.val - 1, by
    have h0 : 0 < cfg1.N := by rw [show cfg1.N = 17 from N_1]; decide
    have := t.isLt; omega⟩

/-- The similarities of point `t`'s block of tokens. -/
def simsAt (c : Dev nD) (t : Fin cfg1.N) : Vec F S1024x128 .f32 := simsOut (iblk1 V c 0 t) (iblk1 V c 1 t)

/-- What rides through the second call: the scratch buffer at the preceding point's similarities. -/
def carry (c : Dev nD) (t : Fin (cfg1.N + 1)) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ S : Vec F S1024x128 .f32, ⌜t.val ≠ 0 → S = simsAt V c (prev le_rfl t)⌝ ∗ owns (c : Thread nD τ) (Memref.whole cc1_scratch0) fullShare S)
    ∗ ∃ r, prngReg c r)

/-- The second call's proof data: the outputs after a point are made of the preceding point's block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => maskOut (simsAt V c (prev le_rfl t.castSucc))
    | ⟨3, _⟩ => probsOut (simsAt V c (prev le_rfl t.castSucc))
    | ⟨4, _⟩ => logitsOut (simsAt V c (prev le_rfl t.castSucc))
  Φ t := carry V c t
  q _ := fullShare
  owed _ := 0

/-- The outputs are held to their stated contents at every point but the first. -/
def held1 : Fin cfg1.W → Bool
  | ⟨0, _⟩ => false
  | ⟨1, _⟩ => false
  | ⟨2, _⟩ => true
  | ⟨3, _⟩ => true
  | ⟨4, _⟩ => true

def rel1 (c : Dev nD) (w : Fin cfg1.W) (t : Fin cfg1.N) (X : (cfg1.win w).block.Idx → Elt F (cfg1.win w).elt) : Prop :=
  t.val ≠ 0 → X = (dat1 V c).after w t

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = maskOut (simsAt V c (prev le_rfl t.castSucc)) := by dsimp only [dat1]
theorem after1_3 (c : Dev nD) (t : Fin cfg1.N) : (dat1 V c).after 3 t = probsOut (simsAt V c (prev le_rfl t.castSucc)) := by dsimp only [dat1]
theorem after1_4 (c : Dev nD) (t : Fin cfg1.N) : (dat1 V c).after 4 t = logitsOut (simsAt V c (prev le_rfl t.castSucc)) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The second call's relational proof data. -/
abbrev rdat1 (c : Dev nD) : RDat τ (Elt F) Unit ℕ (UR sig nD τ) ℕ cfg1 c := (dat1 V c).toRRel held1 (rel1 V c)

def bodyPre1 (c : Dev nD) (t : Fin cfg1.N) : sProp 𝕄 :=
  iprop(carry V c t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ Y, ⌜(rdat1 V c).Finds 2 t Y⌝ ∗ owns (c : Thread nD τ) (st1_2 t) fullShare Y)
    ∗ (∃ Y, ⌜(rdat1 V c).Finds 3 t Y⌝ ∗ owns (c : Thread nD τ) (st1_3 t) fullShare Y)
    ∗ (∃ Y, ⌜(rdat1 V c).Finds 4 t Y⌝ ∗ owns (c : Thread nD τ) (st1_4 t) fullShare Y))

def bodyPost1 (c : Dev nD) (t : Fin cfg1.N) : sProp 𝕄 :=
  iprop(carry V c t.succ ∗ (dat1 V c).owesAt () t.succ
    ∗ owns (c : Thread nD τ) (st1_0 t) fullShare ((dat1 V c).after 0 t)
    ∗ owns (c : Thread nD τ) (st1_1 t) fullShare ((dat1 V c).after 1 t)
    ∗ (∃ X, ⌜rel1 V c 2 t X⌝ ∗ owns (c : Thread nD τ) (st1_2 t) fullShare X)
    ∗ (∃ X, ⌜rel1 V c 3 t X⌝ ∗ owns (c : Thread nD τ) (st1_3 t) fullShare X)
    ∗ (∃ X, ⌜rel1 V c 4 t X⌝ ∗ owns (c : Thread nD τ) (st1_4 t) fullShare X))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1 carry
  simp only [before1_0, before1_1]
  rw [show (dat1 V c).owesAt () t.succ = (dat1 V c).owesAt () t.castSucc from rfl, after1_0, after1_1]
  iintro ⟨⟨Ha, Hb, ⟨%S, %hS, Hs⟩, Hp⟩, Ho, ⟨%d0, H0⟩, ⟨%d1, H1⟩, ⟨%d2, -, H2⟩, ⟨%d3, -, H3⟩, ⟨%d4, -, H4⟩⟩
  iapply (sound_kernel1 c Set.univ (grid1.coords t) _ _ _ _ _ _ _ _ _ _ _ _ (iblk1 V c 0 t) (iblk1 V c 1 t) S _)
  isplitl [H0]; · iexact H0
  isplitl [H1]; · iexact H1
  isplitl [H2]; · iexists _; iexact H2
  isplitl [H3]; · iexists _; iexact H3
  isplitl [H4]; · iexists _; iexact H4
  isplitl [Hs]; · iexact Hs
  iintro ⟨H0, H1, H2, H3, H4, Hs⟩
  isplitl [Ha Hb Hs Hp]
  · isplitl [Ha]; · iexact Ha
    isplitl [Hb]; · iexact Hb
    isplitl [Hs]
    · iexists _; isplitr
      swap; · iexact Hs
      ipureintro
      exact fun _ => rfl
    iexact Hp
  isplitl [Ho]; · iexact Ho
  isplitl [H0]; · iexact H0
  isplitl [H1]; · iexact H1
  isplitl [H2]
  · iexists _; isplitr
    swap; · iexact H2
    ipureintro
    exact fun h => by rw [after1_2, ← hS h]
  isplitl [H3]
  · iexists _; isplitr
    swap; · iexact H3
    ipureintro
    exact fun h => by rw [after1_3, ← hS h]
  iexists _; isplitr
  swap; · iexact H4
  ipureintro
  exact fun h => by rw [after1_4, ← hS h]

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) :
    BodyObligationRel (dat1 (F := F) V c) (defs₀ (F := F)) Variants.none () Set.univ held1 (rel1 V c) := fun t => by
  rw [bigSep_W1, bigSep_W1, defs₀_row1]
  exact triple_restated (sound_body1 V c t) rfl .rfl fun _ => .rfl

/-! ## What the second call leaves in its arrays -/

/-- The output windows are written back at no first point. -/
theorem flush1_ne_zero (w : Fin cfg1.W) (hw : held1 w = true) (t : Fin cfg1.N) (hf : (cfg1.win w).flush t = true) : t.val ≠ 0 := by
  have h : ∀ w : Fin 5, held1 w = true → ∀ t : Fin grid1.N, (win1 w).flush t = true → t.val ≠ 0 := by decide +kernel
  exact h w hw t hf

/-- The input windows are never written back. -/
theorem flush1_in (w : Fin cfg1.W) (hw : held1 w = false) (t : Fin cfg1.N) : ¬ (cfg1.win w).flush t = true := by
  have h : ∀ w : Fin 5, held1 w = false → ∀ t : Fin grid1.N, ¬ (win1 w).flush t = true := by decide +kernel
  exact h w hw t

/-- So an array ends at exactly what the exact data says. -/
theorem arrAt1 (c : Dev nD) (w : Fin cfg1.W) (n : ℕ) (G) (h : (rdat1 V c).ArrAt w n G) : G = (dat1 V c).arrAt w n := by
  obtain ⟨X, hX, hA⟩ := h.exists_exact
  refine (hA (dat1 V c).after fun u hu hf => ?_).trans rfl
  cases hw : held1 w
  · exact absurd hf (flush1_in w hw u)
  · exact ((dat1 V c).toRRel_leaves hw (hX u hu hf) (flush1_ne_zero w hw u hf)).symm

theorem arraysAt1 (c : Dev nD) (n : ℕ) : (rdat1 V c).arraysAt n ⊢ ((dat1 V c).arrays ((dat1 V c).arrAt · n) : sProp 𝕄) := by
  unfold RDat.arraysAt Dat.arrays
  exact BI.bigSep_mono fun w _ => by
    show iprop(∃ F', ⌜(rdat1 V c).ArrAt w n F'⌝ ∗ (cfg1.win w).arr.view.loc (c.tc : Thread nD τ) ↦[(cfg1.win w).arr.view.set]{(rdat1 V c).share w} F') ⊢ _
    iintro ⟨%G, %hG, H⟩
    rw [arrAt1 V c w n G hG]
    iexact H

end Cert.KernelIdeal.Router

end
-- ==== Proof.Run.lean ====
/- The run of the optimised program: the buffer contents at each boundary of @main (the host operations before the
   calls, the first call, the second call, the host operations after), the calls as segments, and the run's end: every
   unscoped buffer at the last boundary's contents, every counter at zero. -/
module

public import proofs.«01_k».proof.Proof.Body
public import proofs.«01_k».proof.Proof.Gen.KernelIdeal.Regions

@[expose] public section

set_option maxRecDepth 16384

noncomputable section

namespace Cert.KernelIdeal.Router

open Cert.KernelIdeal.Gen (hostOps0 hostOps0_sub hostOps0_fresh hostOps0_W hostOps0_writes hostOps2 hostOps2_sub hostOps2_fresh hostOps2_W
  hostOps2_writes launch0 launch1 main_chain cellOf_inj adm regions_no_unscoped scopedRest1_eq)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays. -/
abbrev argRefs : List (Ref sig .tc) := [main_arg0, main_arg1]

theorem hostOps0_args : ∀ a ∈ argRefs, a ∉ hostOps0_W := ListAll.forall_mem_of_all_decide (by decide +kernel)
theorem hostOps2_args : ∀ a ∈ argRefs, a ∉ hostOps2_W := ListAll.forall_mem_of_all_decide (by decide +kernel)

/-! ## The buffer contents at each boundary -/

/-- Core `c`'s buffers at launch, -/
abbrev W0 : Dev nD → Valuation τ sig (Elt F) := fun c b => (s₀ m ρ).mem ((c : Dev nD), b)
/-- after the first host operations (the first call's entry), -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- after the first call (the second call's entry), -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- after the second call, -/
def W3 (c : Dev nD) : Valuation τ sig (Elt F) :=
  Pipeline.withArrays spec1 c (W2 m ρ c) fun w => (dat1 (V2 m ρ) c).arrAt w cfg1.N
abbrev V3 : (c : Dev nD) → (b : Ref sig .tc) → Buf (Elt F) ((c : Thread nD τ).loc b) := fun c b => W3 m ρ c b
/-- and at the return. -/
abbrev W4 : Dev nD → Valuation τ sig (Elt F) := fun c => StableHlo.after hostOps2 (W3 m ρ c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩

theorem argsIn0 : ∀ a ∈ argRefs, ∀ w : Fin cfg0.W, Pipeline.arrRef spec0 w = a → (cfg0.win w).isOut = false :=
  ListAll.forall_mem_of_all_decide (by decide +kernel)
theorem argsIn1 : ∀ a ∈ argRefs, ∀ w : Fin cfg1.W, Pipeline.arrRef spec1 w = a → (cfg1.win w).isOut = false :=
  ListAll.forall_mem_of_all_decide (by decide +kernel)

/-- An argument is as launched at the second call's entry, -/
theorem W2_args (c : Dev nD) (a : Ref sig .tc) (ha : a ∈ argRefs) : W2 m ρ c (Proc.devRef .tc a) = m ((c : Thread nD τ).loc a) :=
  (W2_of m ρ c a (argsIn0 a ha)).trans (W1_of m ρ c a (hostOps0_args a ha))
/-- and at the return. -/
theorem W4_args (c : Dev nD) (a : Ref sig .tc) (ha : a ∈ argRefs) : W4 m ρ c (Proc.devRef .tc a) = m ((c : Thread nD τ).loc a) :=
  (W4_of m ρ c a (hostOps2_args a ha)).trans ((W3_of m ρ c a (argsIn1 a ha)).trans (W2_args m ρ c a ha))

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data and the thread state -/

/-- Every call's exact proof data, -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
/-- and the relational data the run takes. -/
def rdats : (p : Fin 2) → (c : Dev nD) → RDat τ (Elt F) Unit ℕ (UR sig nD τ) ℕ (Pipeline.pin (pcfgs (F := F)) adm p) c
  | ⟨0, _⟩ => fun c => (dat0 (V1 m ρ) c).toR
  | ⟨1, _⟩ => fun c => rdat1 (V2 m ρ) c
abbrev 𝒱₀ : Variants := Variants.none
abbrev L : GSem nD τ sig → Finset Unit := fun _ => ∅
abbrev lv : GSem nD τ sig → Unit → ℕ := fun _ _ => 0
/-- What rides beside the buffers. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The calls as segments -/

set_option backward.isDefEq.respectTransparency.types false in
/-- The first call over the thread state. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.RDat.arrays_of_unscopedBufs (p := 0) (pcfgs (F := F)) adm (rdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    have harr := (dat0 (V1 m ρ) c).toR_arraysAt_post cfg0.N
    iintro ⟨Ha, HO, HY, Hrest⟩
    imodintro
    isplitl [Ha Hrest]
    · iapply hjoin; isplitl [Ha]
      · iapply harr; iexact Ha
      iexact Hrest
    isplitl [HY]; · iexact HY
    unfold Pipeline.RDat.owesAt Pipeline.owesWithin
    icases HO with ⟨%W, -, HO⟩; iexists W; iexact HO

/-- What rides through the second call, made of the scoped buffers at its entry -/
theorem carry_in (V : (c : Dev nD) → (b : Ref sig .tc) → Buf (Elt F) ((c : Thread nD τ).loc b)) (c : Dev nD) (P : sProp 𝕄) :
    iprop((∃ r, prngReg c r) ∗ P ∗ Pipeline.scopedRest spec1 c) ⊢ carry V c 0 := by
  rw [scopedRest1_eq]; unfold carry
  simp only [owns_whole]
  iintro ⟨Hp, -, Ha, Hb, ⟨%f, Hs⟩⟩
  isplitl [Ha]; · iexact Ha
  isplitl [Hb]; · iexact Hb
  isplitl [Hs]
  · iexists f; isplitr
    · ipureintro; exact fun h => absurd rfl h
    iexact Hs
  iexact Hp

/-- and given back at its exit. -/
theorem carry_out (V : (c : Dev nD) → (b : Ref sig .tc) → Buf (Elt F) ((c : Thread nD τ).loc b)) (c : Dev nD) :
    carry V c (Fin.last cfg1.N) ⊢ iprop((∃ r, prngReg c r) ∗ BI.emp ∗ Pipeline.scopedRest spec1 c) := by
  rw [scopedRest1_eq]; unfold carry
  simp only [owns_whole]
  iintro ⟨Ha, Hb, ⟨%S, -, Hs⟩, Hp⟩
  isplitl [Hp]; · iexact Hp
  isplitr; · iempintro
  isplitl [Ha]; · iexact Ha
  isplitl [Hb]; · iexact Hb
  iexists S; iexact Hs

set_option backward.isDefEq.respectTransparency.types false in
/-- The second call over the thread state. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).toRRel
  hwaits := Pipeline.RDat.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.RDat.arrays_of_unscopedBufs (p := 1) (pcfgs (F := F)) adm (rdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := carry_in (V2 m ρ) c _
  hout c := by
    rw [Pipeline.ownSems0_none]; exact carry_out (V2 m ρ) c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    have harr := arraysAt1 (V2 m ρ) c cfg1.N
    iintro ⟨Ha, HO, HY, Hrest⟩
    imodintro
    isplitl [Ha Hrest]
    · iapply hjoin; isplitl [Ha]
      · iapply harr; iexact Ha
      iexact Hrest
    isplitl [HY]; · iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.RDat.Seg.run (segs m ρ) := (main_chain c).trans (by chain_rfl)

set_option backward.isDefEq.respectTransparency.types false in
/-- THE RUN: every weakly fair execution terminates, every unscoped buffer ends at `W4` and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.RDat.θ_run_regions_kit_sems (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.RDat.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (regions_no_unscoped g.2))⟩)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
      ⟨(h.1 c _ (mem_uc main_arg0 (by decide))).trans (W4_args m ρ c main_arg0 (by decide)),
       (h.1 c _ (mem_uc main_arg1 (by decide))).trans (W4_args m ρ c main_arg1 (by decide))⟩, h.2⟩) (run m ρ)

end Cert.KernelIdeal.Router

end
-- ==== Proof.Frames.lean ====
/- The frames: every run of the three programs ends, with its arguments as they were and every semaphore counter at zero.
   The kernel's two printings are one text, so the word-level frame is the run of Proof/Run.lean read at words. -/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Proof

open Idealize.ShloMosaic Idealize.SL.Sem Idealize.ShloMosaic.Tactic

/-- The idealized printing's frame, read at words. -/
def FrameAtWords : Prop :=
  ∀ (m : (ℓ : Loc KernelIdeal.nD KernelIdeal.τ KernelIdeal.sig) → Buf (Elt Bits) ℓ) (g : Dev KernelIdeal.nD → PrngReg), True →
    θ_run (KernelIdeal.defs (F := Bits)) (onTc (τ := KernelIdeal.τ) (KernelIdeal.main (F := Bits))) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0)

/-- The two printings say the same. -/
theorem frameAtWords_eq : FrameAtWords = Cert.quiescent_Kernel (hKernel := Cert.Kernel.Gen.facts) := by chain_rfl

theorem frame_p : Cert.quiescent_Kernel (hKernel := Cert.Kernel.Gen.facts) :=
  frameAtWords_eq ▸ (fun m g _ => Cert.KernelIdeal.Router.frame (F := Bits) m g : FrameAtWords)

theorem frame_pi : Cert.quiescent_KernelIdeal (hKernelIdeal := Cert.KernelIdeal.Gen.facts) :=
  fun m g _ => Cert.KernelIdeal.Router.frame (F := Ideal) m g

theorem frame_ri : Cert.quiescent_ReferenceIdeal (hReferenceIdeal := Cert.ReferenceIdeal.Gen.facts) :=
  fun m g _ => (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m g)

end Cert.Proof

end
-- ==== Proof.Rounds.lean ====
/- Choosing eight of a row's 64 numbers, two ways.
   By rounds: seven times, every entry that attains the greatest value is struck out; the greatest value left is the
   cut. By a stable sort: the first eight positions in the order "greater first, then lower position". The two choices
   agree on a row with at most eight entries above the cut (`marked_iff`), and a row whose nine greatest entries hold at
   most one tie between neighbours is one (`card_above_le`). -/
module

public import Idealize.ShloMosaic.Lib.SortFacts
public import Mathlib.Data.EReal.Basic
public import Mathlib.Data.Finset.Lattice.Fold
public import Mathlib.Order.Interval.Finset.Fin

@[expose] public section

noncomputable section

namespace Cert.Router

open Idealize.ShloMosaic

/-- A row of 64 numbers. -/
abbrev Row := Fin 64 → EReal

/-- The greatest entry of a row. -/
def best (x : Row) : EReal := Finset.univ.sup x

/-- The row with every entry that attains the greatest value struck out. -/
def strike (x : Row) : Row := fun e => if best x ≤ x e then ⊥ else x e

/-- The row after `k` rounds. -/
def left (x : Row) (k : ℕ) : Row := strike^[k] x

/-- The greatest entry after `k` rounds. -/
def level (x : Row) (k : ℕ) : EReal := best (left x k)

/-- The greatest entry after seven rounds. -/
def cut (x : Row) : EReal := level x 7

/-- The positions whose entries lie above the cut. -/
def above (x : Row) : Finset (Fin 64) := Finset.univ.filter fun e => cut x < x e

/-- What the rounds choose: the entries above the cut, and the first that attains it if fewer than eight lie above. -/
def marked (x : Row) (e : Fin 64) : Prop :=
  cut x < x e ∨ (x e = cut x ∧ (∀ k, x k = cut x → e ≤ k)) ∧ (above x).card < 8

/-- What the sort puts at each place. -/
def order (x : Row) (r : Fin 64) : Fin 64 := sortedFrom (fun k k' => decide (x k' < x k)) r

theorem le_best (x : Row) (e : Fin 64) : x e ≤ best x := Finset.le_sup (Finset.mem_univ e)

theorem left_succ (x : Row) (k : ℕ) : left x (k + 1) = strike (left x k) := Function.iterate_succ_apply' _ _ _

theorem left_cases (x : Row) (k : ℕ) (e : Fin 64) : left x k e = ⊥ ∨ left x k e = x e := by
  induction k with
  | zero => exact Or.inr rfl
  | succ k ih =>
    rw [left_succ, strike]
    split
    · exact Or.inl rfl
    · exact ih

theorem left_of_ne (x : Row) (e : Fin 64) (k : ℕ) (h : ∀ j < k, x e ≠ level x j) : left x k e = x e := by
  induction k with
  | zero => rfl
  | succ k ih =>
    have ihk := ih fun j hj => h j (by omega)
    rw [left_succ, strike, ihk, if_neg]
    intro hle
    exact h k (by omega) (le_antisymm (ihk ▸ le_best (left x k) e) hle)

theorem level_of_mem_above {x : Row} {e : Fin 64} (he : e ∈ above x) : ∃ j < 7, x e = level x j := by
  by_contra hne
  push Not at hne
  have h1 := le_best (left x 7) e
  rw [left_of_ne x e 7 hne] at h1
  exact absurd (Finset.mem_filter.mp he).2 (not_lt.mpr h1)

theorem level_attained (x : Row) (k : ℕ) : ∃ e, left x k e = level x k := by
  obtain ⟨e, -, he⟩ := Finset.exists_mem_eq_sup Finset.univ Finset.univ_nonempty (left x k)
  exact ⟨e, he.symm⟩

theorem level_succ_lt (x : Row) (k : ℕ) (h : level x (k + 1) ≠ ⊥) : level x (k + 1) < level x k := by
  obtain ⟨e, he⟩ := level_attained x (k + 1)
  rw [left_succ, strike] at he
  split at he
  · exact absurd he.symm h
  · next hn => rw [← he]; exact not_le.mp hn

theorem level_ne_bot (x : Row) (n : ℕ) (h : level x n ≠ ⊥) : ∀ k ≤ n, level x k ≠ ⊥ := by
  induction n with
  | zero => intro k hk; obtain rfl : k = 0 := by omega
            exact h
  | succ n ih =>
    intro k hk
    rcases Nat.lt_or_eq_of_le hk with hk' | rfl
    · exact ih (ne_bot_of_gt (level_succ_lt x n h)) k (by omega)
    · exact h

theorem level_lt (x : Row) (n : ℕ) (h : level x n ≠ ⊥) : ∀ k < n, level x n < level x k := by
  induction n with
  | zero => intro k hk; omega
  | succ n ih =>
    intro k hk
    have h1 := level_succ_lt x n h
    rcases Nat.lt_or_eq_of_le (Nat.le_of_lt_succ hk) with hk' | rfl
    · exact h1.trans (ih (level_ne_bot x (n + 1) h n (by omega)) k hk')
    · exact h1

/-- A row on which seven rounds leave something has seven entries above the cut at least. -/
theorem seven_le_card_above {x : Row} (h : cut x ≠ ⊥) : 7 ≤ (above x).card := by
  have hex : ∀ k : Fin 7, ∃ e, x e = level x k := fun k => by
    obtain ⟨e, he⟩ := level_attained x k
    refine ⟨e, ?_⟩
    rcases left_cases x k e with h1 | h1
    · exact absurd (he.symm.trans h1) (level_ne_bot x 7 h k (by omega))
    · exact h1.symm.trans he
  choose f hf using hex
  have hinj : Set.InjOn f (Finset.univ : Finset (Fin 7)) := by
    intro a _ b _ hab
    have hl : level x a = level x b := by rw [← hf a, ← hf b, hab]
    rcases lt_trichotomy a b with hlt | heq | hlt
    · exact absurd hl (level_lt x b (level_ne_bot x 7 h b (by omega)) a hlt).ne'
    · exact heq
    · exact absurd hl (level_lt x a (level_ne_bot x 7 h a (by omega)) b hlt).ne
  have := Finset.card_le_card_of_injOn (s := Finset.univ) (t := above x) f
    (fun k _ => Finset.mem_coe.mpr (Finset.mem_filter.mpr ⟨Finset.mem_univ _, by
      rw [hf k]; exact level_lt x 7 h k k.isLt⟩)) hinj
  simpa using this

/-- On a row of finite numbers that seven rounds empty, every entry lies above the cut. -/
theorem cut_ne_bot {x : Row} (hx : ∀ e, x e ≠ ⊥) (h8 : (above x).card ≤ 8) : cut x ≠ ⊥ := by
  intro h
  have : above x = Finset.univ := by
    refine Finset.filter_true_of_mem fun e _ => ?_
    rw [h]
    exact bot_lt_iff_ne_bot.mpr (hx e)
  rw [this] at h8
  simp at h8

/-! ### The sort -/

/-- "Before": greater, or equal and at a lower position. -/
def before (x : Row) (k k' : Fin 64) : Bool := decide (x k' < x k ∨ x k = x k' ∧ k < k')

theorem stableSort_eq (x : Row) (l : List (Fin 64)) (hl : l.Pairwise (· < ·)) :
    stableSort (fun k k' => decide (x k' < x k)) l = stableSort (before x) l := by
  induction l with
  | nil => rfl
  | cons a l ih =>
    obtain ⟨ha, hl'⟩ := List.pairwise_cons.mp hl
    rw [stableSort, stableSort, ih hl']
    refine insertBefore_congr _ _ a _ fun b hb => ?_
    have hab : a < b := ha b ((perm_stableSort _ l).mem_iff.mp hb)
    have : ¬ b < a := not_lt.mpr hab.le
    simp [before, this]

theorem order_eq (x : Row) (r : Fin 64) : order x r = sortedFrom (before x) r := by
  have h : sortPositions 64 (fun k k' => decide (x k' < x k)) = sortPositions 64 (before x) :=
    stableSort_eq x _ (List.pairwise_lt_finRange 64)
  unfold order sortedFrom
  simp only [List.get_eq_getElem, h, Fin.val_cast]

theorem order_injective (x : Row) : Function.Injective (order x) := sortedFrom_injective _
theorem order_surjective (x : Row) : Function.Surjective (order x) := sortedFrom_surjective _

/-- Of two places, the earlier holds a greater entry, or an equal one from a lower position. -/
theorem order_lex (x : Row) {i j : Fin 64} (hij : i < j) :
    x (order x j) < x (order x i) ∨ x (order x i) = x (order x j) ∧ order x i < order x j := by
  have hne : order x i ≠ order x j := fun h => hij.ne (order_injective x h)
  have h : before x (order x j) (order x i) = false := by
    rw [order_eq x i, order_eq x j]
    refine sortedFrom_noInversion (before x) (before x) ?_ (fun _ _ h => h) ?_ i j hij
    · intro a b h
      simp only [before, decide_eq_true_eq, decide_eq_false_iff_not] at h ⊢
      rintro (h1 | ⟨h1, h2⟩) <;> rcases h with h3 | ⟨h3, h4⟩
      · exact absurd h1 h3.not_gt
      · exact absurd h1 (by rw [h3]; exact lt_irrefl _)
      · exact absurd h3 (by rw [h1]; exact lt_irrefl _)
      · exact absurd h2 h4.not_gt
    · intro a b c hab hbc
      simp only [before, decide_eq_false_iff_not, not_or, not_lt, not_and] at hab hbc ⊢
      refine ⟨hab.1.trans hbc.1, fun hac => ?_⟩
      have h1 : x a = x b := le_antisymm hab.1 (hac ▸ hbc.1)
      have h2 : x b = x c := h1.symm.trans hac
      exact (hbc.2 h2).trans (hab.2 h1)
  simp only [before, decide_eq_false_iff_not, not_or, not_lt, not_and] at h
  rcases lt_or_eq_of_le h.1 with h1 | h1
  · exact Or.inl h1
  · exact Or.inr ⟨h1.symm, lt_of_le_of_ne (h.2 h1) hne⟩

theorem order_anti (x : Row) {i j : Fin 64} (hij : i ≤ j) : x (order x j) ≤ x (order x i) := by
  rcases lt_or_eq_of_le hij with h | rfl
  · rcases order_lex x h with h1 | ⟨h1, -⟩
    · exact h1.le
    · exact h1.ge
  · exact le_rfl

/-- A set of positions that holds, with any, all that the sort puts before it, is the first so many that it puts. -/
theorem order_mem_iff (x : Row) (U : Finset (Fin 64)) (hU : ∀ i j, i < j → order x j ∈ U → order x i ∈ U) (r : Fin 64) :
    order x r ∈ U ↔ r.val < U.card := by
  have hcard : (Finset.univ.filter fun s => order x s ∈ U).card = U.card := by
    refine Finset.card_nbij (order x) (fun s hs => (Finset.mem_filter.mp hs).2) (fun a _ b _ h => order_injective x h) ?_
    intro e he
    obtain ⟨s, rfl⟩ := order_surjective x e
    exact ⟨s, Finset.mem_coe.mpr (Finset.mem_filter.mpr ⟨Finset.mem_univ _, he⟩), rfl⟩
  constructor
  · intro hr
    have hsub : Finset.Iic r ⊆ Finset.univ.filter fun s => order x s ∈ U := by
      intro s hs
      refine Finset.mem_filter.mpr ⟨Finset.mem_univ _, ?_⟩
      rcases lt_or_eq_of_le (Finset.mem_Iic.mp hs) with h | rfl
      · exact hU s r h hr
      · exact hr
    have := Finset.card_le_card hsub
    rw [Fin.card_Iic, hcard] at this
    omega
  · intro hr
    by_contra hn
    have hsub : (Finset.univ.filter fun s => order x s ∈ U) ⊆ Finset.Iio r := by
      intro s hs
      refine Finset.mem_Iio.mpr (not_le.mp fun hrs => hn ?_)
      rcases lt_or_eq_of_le hrs with h | rfl
      · exact hU r s h (Finset.mem_filter.mp hs).2
      · exact (Finset.mem_filter.mp hs).2
    have := Finset.card_le_card hsub
    rw [Fin.card_Iio, hcard] at this
    omega

theorem above_upper (x : Row) (i j : Fin 64) (hij : i < j) (h : order x j ∈ above x) : order x i ∈ above x :=
  Finset.mem_filter.mpr ⟨Finset.mem_univ _, (Finset.mem_filter.mp h).2.trans_le (order_anti x hij.le)⟩

theorem exists_order_iff (x : Row) (U : Finset (Fin 64)) (hU : ∀ i j, i < j → order x j ∈ U → order x i ∈ U)
    (h8 : U.card = 8) (e : Fin 64) : e ∈ U ↔ ∃ r : Fin 8, order x (r.castLE (by omega)) = e := by
  obtain ⟨s, rfl⟩ := order_surjective x e
  rw [order_mem_iff x U hU, h8]
  constructor
  · intro hs
    exact ⟨⟨s.val, hs⟩, rfl⟩
  · rintro ⟨r, hr⟩
    have := order_injective x hr
    rw [← this]
    exact r.isLt

/-- THE TWO CHOICES AGREE on a row of finite numbers with at most eight of them above the cut. -/
theorem marked_iff {x : Row} (hx : ∀ e, x e ≠ ⊥) (h8 : (above x).card ≤ 8) (e : Fin 64) :
    marked x e ↔ ∃ r : Fin 8, order x (r.castLE (by omega)) = e := by
  have hcut := cut_ne_bot hx h8
  have h7 := seven_le_card_above hcut
  rcases Nat.lt_or_eq_of_le h8 with hlt | heq
  · -- seven above the cut, and the first that attains it
    obtain ⟨e0, he0⟩ : ∃ e0, x e0 = cut x := by
      obtain ⟨e0, he0⟩ := level_attained x 7
      rcases left_cases x 7 e0 with h1 | h1
      · exact absurd (he0.symm.trans h1) hcut
      · exact ⟨e0, h1.symm.trans he0⟩
    have hne : (Finset.univ.filter fun k => x k = cut x).Nonempty :=
      ⟨e0, Finset.mem_filter.mpr ⟨Finset.mem_univ _, he0⟩⟩
    obtain ⟨m, hm, hmin⟩ : ∃ m, x m = cut x ∧ ∀ k, x k = cut x → m ≤ k :=
      ⟨_, (Finset.mem_filter.mp (Finset.min'_mem _ hne)).2,
        fun k hk => Finset.min'_le _ k (Finset.mem_filter.mpr ⟨Finset.mem_univ _, hk⟩)⟩
    have hmem : ∀ k, k ∈ insert m (above x) ↔ marked x k := by
      intro k
      simp only [Finset.mem_insert, above, Finset.mem_filter, Finset.mem_univ, true_and, marked]
      constructor
      · rintro (rfl | h)
        · exact Or.inr ⟨⟨hm, hmin⟩, hlt⟩
        · exact Or.inl h
      · rintro (h | ⟨⟨h1, h2⟩, -⟩)
        · exact Or.inr h
        · exact Or.inl (le_antisymm (h2 m hm) (hmin k h1))
    have hm_not : m ∉ above x := fun h => (Finset.mem_filter.mp h).2.ne' hm
    rw [← hmem]
    refine exists_order_iff x _ ?_ ?_ e
    · intro i j hij hj
      rcases Finset.mem_insert.mp hj with hj' | hj'
      · rcases order_lex x hij with h1 | ⟨h1, h2⟩
        · refine Finset.mem_insert_of_mem (Finset.mem_filter.mpr ⟨Finset.mem_univ _, ?_⟩)
          rwa [hj', hm] at h1
        · rw [hj', hm] at h1
          rw [hj'] at h2
          exact absurd h2 (not_lt.mpr (hmin _ h1))
      · exact Finset.mem_insert_of_mem (above_upper x i j hij hj')
    · rw [Finset.card_insert_of_notMem hm_not]
      omega
  · rw [← exists_order_iff x (above x) (above_upper x) heq]
    simp only [marked, heq, lt_irrefl, and_false, or_false]
    simp only [above, Finset.mem_filter, Finset.mem_univ, true_and]

/-- A row whose nine greatest entries hold at most one tie between neighbours has at most eight above the cut. -/
theorem card_above_le (x : Row)
    (h : (Finset.univ.filter fun r : Fin 8 => x (order x ⟨r.val + 1, by omega⟩) = x (order x ⟨r.val, by omega⟩)).card ≤ 1) :
    (above x).card ≤ 8 := by
  by_contra hn
  push Not at hn
  -- each of the nine greatest values is one of seven
  have hlev : ∀ r : Fin 9, x (order x (r.castLE (by omega))) ∈ (Finset.range 7).image (level x) := by
    intro r
    have hr : order x (r.castLE (by omega)) ∈ above x := by
      rw [order_mem_iff x (above x) (above_upper x)]
      exact lt_of_le_of_lt (Nat.le_of_lt_succ r.isLt) hn
    obtain ⟨j, hj, he⟩ := level_of_mem_above hr
    exact Finset.mem_image.mpr ⟨j, Finset.mem_range.mpr hj, he.symm⟩
  have himg : ((Finset.range 7).image (level x)).card ≤ 7 := by
    simpa using Finset.card_image_le (s := Finset.range 7) (f := level x)
  -- the places after which the value falls, and the last
  let D : Finset (Fin 9) := Finset.univ.filter fun r => ∀ s : Fin 9, s.val = r.val + 1 →
    x (order x (s.castLE (by omega))) ≠ x (order x (r.castLE (by omega)))
  have hinj : Set.InjOn (fun r : Fin 9 => x (order x (r.castLE (by omega)))) D := by
    have key : ∀ a ∈ D, ∀ b : Fin 9, a < b →
        x (order x (b.castLE (by omega))) < x (order x (a.castLE (by omega))) := by
      intro a ha b hab
      have hs : a.val + 1 < 9 := by have := Fin.lt_def.mp hab; omega
      have h1 := (Finset.mem_filter.mp ha).2 ⟨a.val + 1, hs⟩ rfl
      refine lt_of_le_of_lt (order_anti x (i := ⟨a.val + 1, by omega⟩) ?_) (lt_of_le_of_ne (order_anti x ?_) h1)
      · exact Fin.le_def.mpr (Fin.lt_def.mp hab)
      · exact Fin.le_def.mpr (Nat.le_succ _)
    intro a ha b hb hab
    rcases lt_trichotomy a b with hlt | heq | hlt
    · exact absurd hab (key a ha b hlt).ne'
    · exact heq
    · exact absurd hab (key b hb a hlt).ne
  have hD : D.card ≤ 7 :=
    (Finset.card_le_card_of_injOn _ (fun r _ => Finset.mem_coe.mpr (hlev r)) hinj).trans himg
  have hDc : (Finset.univ \ D).card ≤ 1 := by
    refine le_trans (Finset.card_le_card_of_injOn (fun r : Fin 9 => (⟨min r.val 7, by omega⟩ : Fin 8)) ?_ ?_) h
    · intro r hr
      obtain ⟨s, hs, he⟩ : ∃ s : Fin 9, s.val = r.val + 1 ∧
          x (order x (s.castLE (by omega))) = x (order x (r.castLE (by omega))) := by
        by_contra hne
        push Not at hne
        exact (Finset.mem_sdiff.mp hr).2 (Finset.mem_filter.mpr ⟨Finset.mem_univ _, hne⟩)
      refine Finset.mem_coe.mpr (Finset.mem_filter.mpr ⟨Finset.mem_univ _, ?_⟩)
      have hr7 : min r.val 7 = r.val := by omega
      have e1 : (⟨min r.val 7 + 1, by omega⟩ : Fin 64) = s.castLE (by omega) := Fin.ext (by simp only [Fin.val_castLE]; omega)
      have e2 : (⟨min r.val 7, by omega⟩ : Fin 64) = r.castLE (by omega) := Fin.ext (by simp only [Fin.val_castLE]; omega)
      simp only [e1, e2]
      exact he
    · intro a ha b hb hab
      have h8 : ∀ r ∈ Finset.univ \ D, r.val < 8 := by
        intro r hr
        by_contra h8
        exact (Finset.mem_sdiff.mp hr).2 (Finset.mem_filter.mpr ⟨Finset.mem_univ _, fun s hs => by omega⟩)
      have ha8 := h8 a ha
      have hb8 := h8 b hb
      have := congrArg Fin.val hab
      simp only at this
      exact Fin.ext (by omega)
  have : D.card + (Finset.univ \ D).card = 9 := by
    rw [add_comm, Finset.card_sdiff_add_card_eq_card (Finset.subset_univ D)]
    simp
  omega

end Cert.Router

end
-- ==== Proof.Scalar.lean ====
/- The arithmetic of one row, over the extended reals: a vector divided by its length, the similarity of two such
   vectors, the logit of a pair of similarities, and a row's probabilities. A vector divided by its length has real
   entries whatever the vector holds, so everything after it is arithmetic of real numbers. -/
module

public import Idealize.ShloMosaic.PureOps.Ideal
public import Idealize.ShloMosaic.PureOps.Ideal.Laws
public import Idealize.ShloMosaic.Lib.IdealHost
public import proofs.«01_k».proof.Proof.Rounds
public import Mathlib.Analysis.SpecialFunctions.Log.Basic

@[expose] public section

noncomputable section

namespace Cert.Router

open Idealize.ShloMosaic

/-! ### The constants -/

/-- What is added to a length. -/
def eps : EReal := Ideal.ofBits .f32 0x358637BD#32

theorem eps_pos : 0 < eps := by
  unfold eps
  simp [Ideal.ofBits, Ideal.ieee, -EReal.coe_mul]

theorem eps_real : ∃ r : ℝ, eps = r := by
  unfold eps
  simp only [Ideal.ofBits, Ideal.ieee]
  simp [-EReal.coe_mul]

theorem ofBits_ten : Ideal.ofBits .f32 0x41200000#32 = ((10 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem ofBits_bot : Ideal.ofBits .f32 0xFF800000#32 = ⊥ := by
  simp [Ideal.ofBits, Ideal.ieee]

theorem fold_best (x : Row) : Finset.fold max (Ideal.ofBits .f32 0xFF800000#32) x Finset.univ = best x := by
  rw [ofBits_bot]; rfl

/-! ### Operations on real numbers -/

theorem exp_real (r : ℝ) : Ideal.exp (r : EReal) = (Real.exp r : ℝ) := rfl
theorem log_real {r : ℝ} (h : 0 < r) : Ideal.log (r : EReal) = (Real.log r : ℝ) := by
  show (if r ≤ 0 then (⊥ : EReal) else (Real.log r : ℝ)) = _
  rw [if_neg (not_le.mpr h)]
theorem sqrt_real {r : ℝ} (h : 0 ≤ r) : Ideal.sqrt (r : EReal) = (Real.sqrt r : ℝ) := by
  show (if r < 0 then (⊥ : EReal) else (Real.sqrt r : ℝ)) = _
  rw [if_neg (not_lt.mpr h)]
theorem div_of_ne {x y : EReal} (h : y ≠ 0) : Ideal.div x y = x * y⁻¹ := if_neg h
theorem div_real (x : ℝ) {y : ℝ} (h : y ≠ 0) : Ideal.div (x : EReal) (y : EReal) = ((x / y : ℝ) : EReal) := by
  rw [div_of_ne (by exact_mod_cast h), ← EReal.coe_inv, ← EReal.coe_mul, div_eq_mul_inv]
theorem max_real (a b : ℝ) : max (a : EReal) (b : EReal) = ((max a b : ℝ) : EReal) :=
  (EReal.coe_strictMono.monotone.map_max).symm
theorem sum_real {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ### A vector divided by its length -/

/-- A vector's length, and `eps` more. -/
def norm (x : Fin 2048 → EReal) : EReal := Ideal.sqrt (∑ k, x k * x k) + eps

/-- A vector divided by that. -/
def unit (x : Fin 2048 → EReal) (k : Fin 2048) : EReal := Ideal.div (x k) (norm x)

theorem mul_self_nonneg' (x : EReal) : 0 ≤ x * x := by
  induction x with
  | bot => simp
  | top => simp
  | coe r => exact_mod_cast mul_self_nonneg r

theorem sum_sq_nonneg (x : Fin 2048 → EReal) : 0 ≤ ∑ k, x k * x k := Finset.sum_nonneg fun k _ => mul_self_nonneg' (x k)

theorem sqrt_nonneg' {s : EReal} (h : 0 ≤ s) : 0 ≤ Ideal.sqrt s := by
  induction s with
  | bot => simp at h
  | top => exact le_top
  | coe r => rw [sqrt_real (by exact_mod_cast h)]; exact_mod_cast Real.sqrt_nonneg r

theorem norm_pos (x : Fin 2048 → EReal) : 0 < norm x :=
  lt_of_lt_of_le eps_pos (le_add_of_nonneg_left (sqrt_nonneg' (sum_sq_nonneg x)))

/-- Multiplying by one over the length is dividing by it. -/
theorem mul_div_one (y : EReal) (x : Fin 2048 → EReal) : y * Ideal.div 1 (norm x) = Ideal.div y (norm x) := by
  rw [div_of_ne (norm_pos x).ne', div_of_ne (norm_pos x).ne', one_mul]

theorem unit_real (x : Fin 2048 → EReal) (k : Fin 2048) : ∃ r : ℝ, unit x k = r := by
  by_cases hs : (∑ k, x k * x k) = ⊤
  · refine ⟨0, ?_⟩
    obtain ⟨e, he⟩ := eps_real
    have : norm x = ⊤ := by rw [norm, hs, he]; rfl
    rw [unit, div_of_ne (norm_pos x).ne', this]
    simp
  · have hfin : ∀ k, x k * x k ≠ ⊤ := fun k hk => hs (top_le_iff.mp (hk ▸
      Finset.single_le_sum (f := fun k => x k * x k) (fun i _ => mul_self_nonneg' (x i)) (Finset.mem_univ k)))
    have hreal : ∀ k, ∃ r : ℝ, x k = r := fun k => by
      have := hfin k
      generalize x k = y at this ⊢
      induction y with
      | bot => simp at this
      | top => simp at this
      | coe r => exact ⟨r, rfl⟩
    choose f hf using hreal
    obtain ⟨e, he⟩ := eps_real
    have hn : norm x = ((Real.sqrt (∑ k, f k * f k) + e : ℝ) : EReal) := by
      simp only [norm, hf, ← EReal.coe_mul]
      rw [sum_real, sqrt_real (Finset.sum_nonneg fun k _ => mul_self_nonneg (f k)), he, EReal.coe_add]
    have hpos := norm_pos x
    rw [hn] at hpos
    refine ⟨f k / (Real.sqrt (∑ k, f k * f k) + e), ?_⟩
    rw [unit, hn, hf k, div_real]
    have h0 : (0 : ℝ) < Real.sqrt (∑ k, f k * f k) + e := by exact_mod_cast hpos
    exact h0.ne'

/-- The similarity of two vectors. -/
def sim (u v : Fin 2048 → EReal) : EReal := ∑ k, unit u k * unit v k

theorem sim_real (u v : Fin 2048 → EReal) : ∃ r : ℝ, sim u v = r := by
  choose f hf using unit_real u
  choose g hg using unit_real v
  exact ⟨∑ k, f k * g k, by simp only [sim, hf, hg, ← EReal.coe_mul, sum_real]⟩

/-! ### Logits -/

/-- The logit of an expert's two similarities. -/
def logit (a b : EReal) : EReal := ((10 : ℝ) : EReal) * Ideal.log (Ideal.exp a + Ideal.exp b)

theorem logit_real (a b : ℝ) : logit a b = ((10 * Real.log (Real.exp a + Real.exp b) : ℝ) : EReal) := by
  rw [logit, exp_real, exp_real, ← EReal.coe_add, log_real (by positivity), ← EReal.coe_mul]

/-- The kernel's sum of two exponentials, the greater similarity taken out. -/
def expSum (a b : EReal) : EReal := Ideal.exp (a - max a b) + Ideal.exp (b - max a b)

theorem expSum_real (a b : ℝ) : expSum a b = ((Real.exp (a - max a b) + Real.exp (b - max a b) : ℝ) : EReal) := by
  rw [expSum, max_real, ← EReal.coe_sub, ← EReal.coe_sub, exp_real, exp_real, ← EReal.coe_add]

theorem exp_pair (a b : ℝ) : Real.exp a + Real.exp b = Real.exp (max a b) * (Real.exp (a - max a b) + Real.exp (b - max a b)) := by
  rw [mul_add, ← Real.exp_add, ← Real.exp_add]
  congr 2 <;> ring

theorem log_pair (a b : ℝ) : Real.log (Real.exp a + Real.exp b)
    = max a b + Real.log (Real.exp (a - max a b) + Real.exp (b - max a b)) := by
  rw [exp_pair, Real.log_mul (Real.exp_ne_zero _) (by positivity), Real.log_exp]

/-- The kernel's logit. -/
theorem logit_kernel (a b : ℝ) :
    Ideal.ofBits .f32 0x41200000#32 * (max (a : EReal) b + Ideal.log (expSum a b)) = logit a b := by
  rw [logit_real, expSum_real, log_real (by positivity), max_real, ofBits_ten, ← EReal.coe_add, ← EReal.coe_mul, log_pair a b]

/-- The kernel's exponential of a logit, by a product of ten. -/
theorem exp_kernel (a b : ℝ) :
    Ideal.exp (Ideal.ofBits .f32 0x41200000#32 * max (a : EReal) b)
      * (expSum a b * expSum a b * (expSum a b * expSum a b) * (expSum a b * expSum a b * (expSum a b * expSum a b))
        * (expSum a b * expSum a b)) = Ideal.exp (logit a b) := by
  have hq : (0 : ℝ) < Real.exp (a - max a b) + Real.exp (b - max a b) := by positivity
  rw [logit_real, log_pair a b, expSum_real, max_real, ofBits_ten]
  simp only [← EReal.coe_mul, exp_real]
  congr 1
  generalize Real.exp (a - max a b) + Real.exp (b - max a b) = q at hq ⊢
  rw [mul_add, Real.exp_add, show (10 : ℝ) * Real.log q = ((10 : ℕ) : ℝ) * Real.log q by norm_num, Real.exp_nat_mul, Real.exp_log hq]
  ring

/-! ### Probabilities -/

/-- A row's probabilities, from its logits. -/
def probs (l : Row) (e : Fin 64) : EReal := Ideal.div (Ideal.exp (l e)) (∑ k, Ideal.exp (l k))

/-- Taking the same number from every logit leaves the probabilities as they were. -/
theorem probs_shift (l : Row) (hl : ∀ e, ∃ r : ℝ, l e = r) (m : EReal) (hm : ∃ r : ℝ, m = r) (e : Fin 64) :
    Ideal.div (Ideal.exp (l e - m)) (∑ k, Ideal.exp (l k - m)) = probs l e := by
  choose f hf using hl
  obtain ⟨M, rfl⟩ := hm
  have h1 : (0 : ℝ) < ∑ k, Real.exp (f k) := Finset.sum_pos (fun _ _ => Real.exp_pos _) Finset.univ_nonempty
  have h2 : (0 : ℝ) < ∑ k, Real.exp (f k - M) := Finset.sum_pos (fun _ _ => Real.exp_pos _) Finset.univ_nonempty
  simp only [probs, hf, ← EReal.coe_sub, exp_real]
  rw [sum_real, sum_real, div_real _ h1.ne', div_real _ h2.ne']
  congr 1
  rw [div_eq_div_iff h2.ne' h1.ne']
  simp only [Real.exp_sub, ← Finset.sum_div]
  ring

/-- The greatest of a row's real entries is real. -/
theorem best_real (l : Row) (hl : ∀ e, ∃ r : ℝ, l e = r) : ∃ r : ℝ, best l = r := by
  obtain ⟨e, he⟩ := level_attained l 0
  obtain ⟨r, hr⟩ := hl e
  exact ⟨r, he.symm.trans hr⟩

/-- A token's logits, from its row and the experts' prototypes. -/
def tokenLogits (x : Fin 2048 → EReal) (p : Fin 64 → Fin 2 → Fin 2048 → EReal) : Row :=
  fun e => logit (sim x (p e 0)) (sim x (p e 1))

theorem tokenLogits_real (x : Fin 2048 → EReal) (p : Fin 64 → Fin 2 → Fin 2048 → EReal) (e : Fin 64) :
    ∃ a : ℝ, tokenLogits x p e = a := by
  obtain ⟨a, ha⟩ := sim_real x (p e 0)
  obtain ⟨b, hb⟩ := sim_real x (p e 1)
  exact ⟨_, by rw [tokenLogits, ha, hb, logit_real]⟩

end Cert.Router

end
-- ==== Proof.Block.lean ====
/- What one run of each call's body computes, entry by entry: the prototypes divided by their lengths, the similarities
   of a block of tokens, and, from a block of real similarities, the logits, the probabilities and the marks. -/
module

public import proofs.«01_k».proof.Proof.Gen.KernelIdeal.Skeleton
public import proofs.«01_k».proof.Proof.Gen.KernelIdeal
public import proofs.«01_k».proof.Proof.Scalar
public import Idealize.ShloMosaic.Lib.Pointwise
public import Idealize.ShloMosaic.Lib.SortNet.Extract

@[expose] public section

set_option maxRecDepth 16384

noncomputable section

namespace Cert.Router

open Cert.KernelIdeal Cert.KernelIdeal.Gen
open Idealize.ShloMosaic

/-! ### Lengths and similarities -/

theorem proto_apply (x : FVec Ideal S128x2048 .f32) (q : Fin 128) (k : Fin 2048) :
    k0_pay1 (F := Ideal) x (ix2 q k) = unit (fun k => x (ix2 q k)) k := by
  pointwise [k0_pay1]
  rfl

theorem sims_apply (x : FVec Ideal S1024x2048 .f32) (p : FVec Ideal S128x2048 .f32) (r : Fin 1024) (q : Fin 128) :
    k1_pay1 (F := Ideal) x p (ix2 r q) = ∑ k : Fin 2048, unit (fun k => x (ix2 r k)) k * p (ix2 q k) := by
  pointwise [k1_pay1]
  exact Finset.sum_congr rfl fun k _ => congrArg (· * p (ix2 q k)) (mul_div_one (x (ix2 r k)) fun k => x (ix2 r k))

/-! ### Logits and probabilities -/

/-- The two places of an expert's similarities in a row of 128. -/
abbrev fst (e : Fin 64) : Fin 128 := ⟨e.val, by omega⟩
abbrev snd (e : Fin 64) : Fin 128 := ⟨64 + e.val, by omega⟩

/-- A row's logits, from its similarities. -/
def rowLogits (s : Fin 128 → EReal) : Row := fun e => logit (s (fst e)) (s (snd e))

theorem rowLogits_real {s : Fin 128 → EReal} (hs : ∀ q, ∃ a : ℝ, s q = a) (e : Fin 64) : ∃ a : ℝ, rowLogits s e = a := by
  obtain ⟨a, ha⟩ := hs (fst e)
  obtain ⟨b, hb⟩ := hs (snd e)
  exact ⟨_, by rw [rowLogits, ha, hb, logit_real]⟩

section Rows

variable (s : FVec Ideal S1024x128 .f32) (r : Fin 1024) (hs : ∀ q, ∃ a : ℝ, s (ix2 r q) = a)

/-- A row of a block of similarities. -/
abbrev simRow : Fin 128 → EReal := fun q => s (ix2 r q)

include hs

theorem logits_apply (e : Fin 64) : k1_pay6 (F := Ideal) s (ix2 r e) = rowLogits (simRow s r) e := by
  obtain ⟨a, ha⟩ := hs (fst e)
  obtain ⟨b, hb⟩ := hs (snd e)
  pointwise [k1_pay6, k1_pay5, k1_pay4, k1_pay3, k1_pay2]
  have h := logit_kernel a b
  rw [← ha, ← hb] at h
  exact h

theorem weight_apply (e : Fin 64) :
    Ideal.exp (Ideal.ofBits .f32 0x41200000#32 * k1_pay4 (F := Ideal) s (ix2 r e))
      * (k1_pay5 (F := Ideal) s (ix2 r e) * k1_pay5 (F := Ideal) s (ix2 r e) * (k1_pay5 (F := Ideal) s (ix2 r e) * k1_pay5 (F := Ideal) s (ix2 r e))
          * (k1_pay5 (F := Ideal) s (ix2 r e) * k1_pay5 (F := Ideal) s (ix2 r e) * (k1_pay5 (F := Ideal) s (ix2 r e) * k1_pay5 (F := Ideal) s (ix2 r e)))
        * (k1_pay5 (F := Ideal) s (ix2 r e) * k1_pay5 (F := Ideal) s (ix2 r e)))
      = Ideal.exp (rowLogits (simRow s r) e) := by
  obtain ⟨a, ha⟩ := hs (fst e)
  obtain ⟨b, hb⟩ := hs (snd e)
  have h4 : k1_pay4 (F := Ideal) s (ix2 r e) = max (s (ix2 r (fst e))) (s (ix2 r (snd e))) := by
    pointwise [k1_pay4, k1_pay3, k1_pay2]
  have h5 : k1_pay5 (F := Ideal) s (ix2 r e) = expSum (s (ix2 r (fst e))) (s (ix2 r (snd e))) := by
    pointwise [k1_pay5, k1_pay4, k1_pay3, k1_pay2]
    rfl
  rw [h4, h5, show rowLogits (simRow s r) e = logit (s (ix2 r (fst e))) (s (ix2 r (snd e))) from rfl, ha, hb]
  exact exp_kernel a b

theorem probs_apply (e : Fin 64) : k1_pay7 (F := Ideal) s (ix2 r e) = probs (rowLogits (simRow s r)) e := by
  pointwise [k1_pay7]
  unfold probs
  congr 1
  · exact weight_apply s r hs e
  · exact Finset.sum_congr rfl fun k _ => weight_apply s r hs k

end Rows

/-! ### The rounds -/

/-- Every row's greatest entry, along the row. -/
def rowMax (v : FVec Ideal S1024x64 .f32) : FVec Ideal S1024x64 .f32 :=
  broadcastTo S1024x64 (shapeCast S1024x1 (multiReduction .maximumf [1] S1024 v 0xFF800000#32 reduces_S1024x64_S1024 (.inl rfl) rfl)
    shapeCasts_S1024_S1024x1) broadcasts_S1024x1_S1024x64

/-- One round on every row. -/
def strikeRows (v : FVec Ideal S1024x64 .f32) : FVec Ideal S1024x64 .f32 :=
  select (cmpf .oge v (rowMax v)) (broadcast S1024x64 (Scalar.ofBits .f32 0xFF800000#32)) v

theorem strikeRows_row (v : FVec Ideal S1024x64 .f32) (r : Fin 1024) :
    (fun e => strikeRows v (ix2 r e)) = strike fun e => v (ix2 r e) := by
  funext e
  pointwise [strikeRows, rowMax]
  rw [fold_best, ofBits_bot]
  rfl

/-- Seven rounds. -/
def leftRows (v : FVec Ideal S1024x64 .f32) : FVec Ideal S1024x64 .f32 :=
  strikeRows (strikeRows (strikeRows (strikeRows (strikeRows (strikeRows (strikeRows v))))))

theorem leftRows_row (v : FVec Ideal S1024x64 .f32) (r : Fin 1024) :
    (fun e => leftRows v (ix2 r e)) = left (fun e => v (ix2 r e)) 7 := by
  unfold leftRows
  simp only [strikeRows_row]
  rfl

/-! ### The marks -/

/-- The marks, from the logits and what seven rounds leave of them. -/
def marks (l v : FVec Ideal S1024x64 .f32) : IVec S1024x64 32 :=
  let gt : IVec S1024x64 1 := cmpf .ogt l (rowMax v)
  let count : FVec Ideal S1024x1 .f32 := shapeCast S1024x1
    (multiReduction .add [1] S1024 (sitofp (F := Ideal) .f32 (extui 32 gt natLt_1_32)) 0x00000000#32 reduces_S1024x64_S1024 (.inl rfl) rfl)
    shapeCasts_S1024_S1024x1
  let eq : IVec S1024x64 1 := cmpf .oeq l (rowMax v)
  let places : IVec S1024x64 32 := iota .tc S1024x64 32 [1] iota_S1024x64_d1_w32
  let first : IVec S1024 32 := multiReductionI .minsi [1] S1024 (select eq places (broadcast S1024x64 64#32)) 2147483647#32 reduces_S1024x64_S1024 rfl
  let atFirst : IVec S1024x64 1 := cmpi .eq places (broadcastTo S1024x64 (shapeCast S1024x1 first shapeCasts_S1024_S1024x1) broadcasts_S1024x1_S1024x64)
  let few : IVec S1024x1 1 := cmpf .olt count (broadcast S1024x1 (Scalar.ofBits (F := Ideal) .f32 0x41000000#32))
  extui 32 (ori gt (andi (andi eq atFirst) (broadcastTo S1024x64 few broadcasts_S1024x1_S1024x64))) natLt_1_32

theorem pay10_eq (s : FVec Ideal S1024x128 .f32) :
    k1_pay10 (F := Ideal) (k1_pay6 (F := Ideal) s) (k1_pay8 (F := Ideal) s) (k1_pay9 (F := Ideal) s)
      = marks (k1_pay6 (F := Ideal) s) (leftRows (k1_pay6 (F := Ideal) s)) := rfl

/-- The bit of the marks, from its four conditions. -/
theorem bits (a b c d : Bool) :
    BitVec.setWidth 32 (IntOp.ori (BitVec.ofBool a) (IntOp.andi (IntOp.andi (BitVec.ofBool b) (BitVec.ofBool c)) (BitVec.ofBool d)))
      = if a = true ∨ (b = true ∧ c = true) ∧ d = true then 1#32 else 0#32 := by
  revert a b c d; decide

/-- A count of a row's positions, summed as numbers. -/
theorem count_eq (p : Fin 64 → Prop) [DecidablePred p] :
    (∑ x : Fin 64, FloatOps.sitofp (F := Ideal) .f32 (BitVec.setWidth 32 (BitVec.ofBool (decide (p x)))))
      = (((Finset.univ.filter p).card : ℝ) : EReal) := by
  have h : ∀ x, FloatOps.sitofp (F := Ideal) .f32 (BitVec.setWidth 32 (BitVec.ofBool (decide (p x))))
      = (((if p x then 1 else 0 : ℝ)) : EReal) := fun x => by
    show (((BitVec.setWidth 32 (BitVec.ofBool (decide (p x)))).toInt : ℝ) : EReal) = _
    by_cases hp : p x
    · simp [hp]
    · simp [hp]
  rw [Finset.sum_congr rfl fun x _ => h x, sum_real, Finset.sum_boole]

theorem toInt_place (n : ℕ) (h : n < 65) : (BitVec.ofNat 32 n).toInt = n := by
  rw [BitVec.toInt_eq_toNat_of_lt (by rw [BitVec.toNat_ofNat]; omega), BitVec.toNat_ofNat]
  omega

/-- The least place of a set that holds `e`, taken as a minimum of words, is `e`'s exactly if `e` is the first. -/
theorem first_eq (p : Fin 64 → Prop) [DecidablePred p] (e : Fin 64) (he : p e) :
    (BitVec.ofNat 32 e.val = Finset.fold IntOp.minsi 2147483647#32 (fun x : Fin 64 => if p x then BitVec.ofNat 32 x.val else 64#32) Finset.univ)
      ↔ ∀ k, p k → e ≤ k := by
  have hfold : (Finset.fold IntOp.minsi 2147483647#32 (fun x : Fin 64 => if p x then BitVec.ofNat 32 x.val else 64#32) Finset.univ).toInt
      = Finset.fold min (2147483647 : ℤ) (fun x : Fin 64 => if p x then (x.val : ℤ) else 64) Finset.univ := by
    have h := Finset.fold_hom (s := (Finset.univ : Finset (Fin 64))) (op := IntOp.minsi (w := 32)) (op' := (min : ℤ → ℤ → ℤ))
      (m := BitVec.toInt) (b := 2147483647#32) (f := fun x : Fin 64 => if p x then BitVec.ofNat 32 x.val else 64#32)
      (fun a b => SortNet.toInt_minsi a b)
    rw [← h]
    have hf : (fun x : Fin 64 => (if p x then BitVec.ofNat 32 x.val else 64#32).toInt)
        = fun x : Fin 64 => if p x then (x.val : ℤ) else 64 := by
      funext x
      split
      · exact toInt_place x.val (by omega)
      · rfl
    rw [hf]
    rfl
  rw [← BitVec.toInt_inj, hfold, toInt_place e.val (by omega)]
  have hle : Finset.fold min (2147483647 : ℤ) (fun x : Fin 64 => if p x then (x.val : ℤ) else 64) Finset.univ ≤ e.val :=
    Finset.fold_min_le _ |>.mpr (Or.inr ⟨e, Finset.mem_univ _, by simp [he]⟩)
  rw [eq_comm, ← hle.ge_iff_eq, Finset.le_fold_min]
  constructor
  · rintro ⟨-, h⟩ k hk
    have := h k (Finset.mem_univ _)
    simp only [hk, if_true] at this
    exact Fin.le_def.mpr (by exact_mod_cast this)
  · intro h
    refine ⟨by have := e.isLt; omega, fun x _ => ?_⟩
    split
    · next hx => exact_mod_cast Fin.le_def.mp (h x hx)
    · have := e.isLt; omega

open Classical in
theorem marks_apply (l v : FVec Ideal S1024x64 .f32) (r : Fin 1024) (hv : (fun e => v (ix2 r e)) = left (fun e => l (ix2 r e)) 7)
    (e : Fin 64) : marks l v (ix2 r e) = if marked (fun e => l (ix2 r e)) e then 1#32 else 0#32 := by
  pointwise [marks, rowMax]
  have hcut : Finset.fold max (Ideal.ofBits FTy.f32 4286578688#32) (fun x => v (ix2 r x)) Finset.univ = cut (fun e => l (ix2 r e)) := by
    rw [hv]; exact fold_best _
  simp only [hcut]
  rw [count_eq (fun x => cut (fun e => l (ix2 r e)) < l (ix2 r x)), ofBits_eight]
  unfold IntOp.cmpi
  rw [bits]
  refine if_congr ?_ rfl rfl
  unfold marked
  simp only [decide_eq_true_eq, beq_iff_eq]
  refine or_congr Iff.rfl (and_congr ?_ ?_)
  · exact and_congr_right fun he => first_eq (fun k => l (ix2 r k) = cut fun e => l (ix2 r e)) e he
  · rw [EReal.coe_lt_coe_iff]
    norm_cast

open Classical in
theorem mask_apply (s : FVec Ideal S1024x128 .f32) (r : Fin 1024) (hs : ∀ q, ∃ a : ℝ, s (ix2 r q) = a) (e : Fin 64) :
    k1_pay10 (F := Ideal) (k1_pay6 (F := Ideal) s) (k1_pay8 (F := Ideal) s) (k1_pay9 (F := Ideal) s) (ix2 r e)
      = if marked (rowLogits (simRow s r)) e then 1#32 else 0#32 := by
  rw [pay10_eq, marks_apply _ _ r (leftRows_row _ r)]
  rw [show (fun e => k1_pay6 (F := Ideal) s (ix2 r e)) = rowLogits (simRow s r) from funext fun e => logits_apply s r hs e]

end Cert.Router

end
-- ==== Proof.Array.lean ====
/- What the optimised program's arrays hold: the prototypes' rows after the host operations, their unit rows after the
   first call, and after the second call, row by row, the marks, the probabilities and the logits of each token. -/
module

public import proofs.«01_k».proof.Proof.Run
public import proofs.«01_k».proof.Proof.Block
public import Idealize.ShloMosaic.Lib.Pipeline.ValueKit

@[expose] public section

set_option maxRecDepth 16384

noncomputable section

namespace Cert.KernelIdeal.Router

open Cert.KernelIdeal.Gen
open Idealize.ShloMosaic Idealize.ShloMosaic.TcCoe Idealize.ShloMosaic.Tactic
open Idealize.ShloMosaic.Pipeline (Dat)
open Cert.Router

/-! ### The blocks of the calls -/

theorem protoOut_eq (x : FVec Ideal S128x2048 .f32) : protoOut (F := Ideal) x = k0_pay1 (F := Ideal) x := by
  unfold protoOut
  rw [View.ld_unit_lit _ _ (by decide), View.canon_cons_unit_lit _ _ _ (by decide)]

theorem simsOut_eq (x : FVec Ideal S1024x2048 .f32) (p : FVec Ideal S128x2048 .f32) :
    simsOut (F := Ideal) x p = k1_pay1 (F := Ideal) x p := by
  unfold simsOut
  rw [View.ld_unit_lit _ _ (by decide), View.ld_unit_lit _ _ (by decide), View.canon_cons_unit_lit _ _ _ (by decide)]

theorem maskOut_eq (s : FVec Ideal S1024x128 .f32) :
    maskOut (F := Ideal) s = k1_pay10 (F := Ideal) (k1_pay6 (F := Ideal) s) (k1_pay8 (F := Ideal) s) (k1_pay9 (F := Ideal) s) := by
  unfold maskOut
  rw [View.ld_unit_lit _ _ (by decide), View.canon_cons_unit_lit _ _ _ (by decide)]

theorem probsOut_eq (s : FVec Ideal S1024x128 .f32) : probsOut (F := Ideal) s = k1_pay7 (F := Ideal) s := by
  unfold probsOut
  rw [View.ld_unit_lit _ _ (by decide), View.canon_cons_unit_lit _ _ _ (by decide)]

theorem logitsOut_eq (s : FVec Ideal S1024x128 .f32) : logitsOut (F := Ideal) s = k1_pay6 (F := Ideal) s := by
  unfold logitsOut
  rw [View.ld_unit_lit _ _ (by decide), View.canon_cons_unit_lit _ _ _ (by decide)]

/-! ### The first call -/

section Calls

variable (V : (c : Dev nD) → (b : Ref sig .tc) → Buf (Elt Ideal) ((c : Thread nD τ).loc b)) (c : Dev nD)

theorem index0 : ∀ t : Fin cfg0.N, win0_0.index t = ![0, 0] ∧ win0_1.index t = ![0, 0] :=
  (by decide +kernel : ∀ t : Fin grid0.N, _)

theorem iblk0_apply (q : Fin 128) (k : Fin 2048) :
    iblk0 (F := Ideal) V c 0 t0_0 (ix2 q k) = (V c main_v1 : FVec Ideal S128x2048 .f32) (ix2 q k) := by
  blk_ext! [iblk0, index0 t0_0]

theorem array0 : (dat0 (F := Ideal) V c).arrAt 1 cfg0.N
    = fun i : S128x2048.Idx => unit (fun k => (V c main_v1 : FVec Ideal S128x2048 .f32) (ix2 (i 0) k)) (i 1) := by
  refine (dat0 V c).arrAt_eq_of_after_last 1 t0_0 (by decide +kernel) _ fun j => ?_
  blk_simp
  rw [after0_1, protoOut_eq]
  rw [eq_ix2 j]
  have h : iblk0 (F := Ideal) V c 0 t0_0 = (V c main_v1 : FVec Ideal S128x2048 .f32) := by
    funext i; rw [eq_ix2 i]; exact iblk0_apply V c _ _
  rw [h]
  exact proto_apply _ _ _

/-! ### The second call -/

theorem index1 : ∀ t : Fin cfg1.N, win1_0.index t = ![min t.val 15, 0] ∧ win1_1.index t = ![0, 0] ∧ win1_2.index t = ![t.val - 1, 0]
    ∧ win1_3.index t = ![t.val - 1, 0] ∧ win1_4.index t = ![t.val - 1, 0] :=
  (by decide +kernel : ∀ t : Fin grid1.N, _)

theorem iblk1_0_apply (t : Fin cfg1.N) (r : Fin 1024) (k : Fin 2048) :
    iblk1 (F := Ideal) V c 0 t (ix2 r k)
      = (V c main_arg0 : FVec Ideal S16384x2048 .f32) (ix2 ⟨min t.val 15 * 1024 + r.val, by omega⟩ k) := by
  blk_ext! [iblk1, index1 t]

theorem iblk1_1_apply (t : Fin cfg1.N) (q : Fin 128) (k : Fin 2048) :
    iblk1 (F := Ideal) V c 1 t (ix2 q k) = (V c main_v2 : FVec Ideal S128x2048 .f32) (ix2 q k) := by
  blk_ext! [iblk1, index1 t]

/-- The similarities of a token. -/
def sims (t : Fin 16384) (q : Fin 128) : EReal :=
  ∑ k : Fin 2048, unit (fun k => (V c main_arg0 : FVec Ideal S16384x2048 .f32) (ix2 t k)) k * (V c main_v2 : FVec Ideal S128x2048 .f32) (ix2 q k)

theorem simsAt_apply (t : Fin cfg1.N) (r : Fin 1024) (q : Fin 128) :
    simsAt (F := Ideal) V c t (ix2 r q) = sims V c ⟨min t.val 15 * 1024 + r.val, by omega⟩ q := by
  unfold simsAt
  rw [simsOut_eq, sims_apply]
  unfold sims
  simp only [iblk1_0_apply, iblk1_1_apply]

theorem sims_real (hs : ∀ t q, ∃ a : ℝ, sims V c t q = a) (t : Fin cfg1.N) (r : Fin 1024) (q : Fin 128) :
    ∃ a : ℝ, simsAt (F := Ideal) V c (prev le_rfl t.castSucc) (ix2 r q) = a := by
  rw [simsAt_apply]; exact hs _ _

/-- The block that a point writes back is that of the tokens before it. -/
theorem simRow_eq (t : Fin cfg1.N) (h0 : t.val ≠ 0) (r : Fin 1024) (i : Fin 16384) (hi : i.val = (t.val - 1) * 1024 + r.val) :
    simRow (simsAt (F := Ideal) V c (prev le_rfl t.castSucc)) r = sims V c i := by
  funext q
  unfold simRow
  rw [simsAt_apply]
  congr 1
  have ht : t.val < 17 := lt_of_lt_of_eq t.isLt N_1
  refine Fin.ext ?_
  rw [hi]
  show min (t.val - 1) 15 * 1024 + r.val = _
  rw [min_eq_left (by omega)]

variable (hs : ∀ t q, ∃ a : ℝ, sims V c t q = a)

include hs

theorem array1_4 : (dat1 (F := Ideal) V c).arrAt 4 cfg1.N = fun i : S16384x64.Idx => rowLogits (sims V c (i 0)) (i 1) := by
  refine (dat1 V c).arrAt_eq_of_covers 4 _ (by decide +kernel) fun t hf y => ?_
  have h0 := flush1_ne_zero 4 rfl t hf
  obtain ⟨r, e, rfl⟩ : ∃ (r : Fin 1024) (e : Fin 64), y = ix2 r e := ⟨y 0, y 1, eq_ix2 y⟩
  blk_simp
  rw [after1_4, logitsOut_eq]
  refine (logits_apply _ r (sims_real V c hs t r) e).trans ?_
  exact congrArg₂ (fun s e => rowLogits s e) (simRow_eq V c t h0 r ((win1_4.blk t).view.emb (ix2 r e) 0) (by blk_simp [index1 t]))
    (Fin.ext (by blk_simp [index1 t]))

theorem array1_3 : (dat1 (F := Ideal) V c).arrAt 3 cfg1.N = fun i : S16384x64.Idx => probs (rowLogits (sims V c (i 0))) (i 1) := by
  refine (dat1 V c).arrAt_eq_of_covers 3 _ (by decide +kernel) fun t hf y => ?_
  have h0 := flush1_ne_zero 3 rfl t hf
  obtain ⟨r, e, rfl⟩ : ∃ (r : Fin 1024) (e : Fin 64), y = ix2 r e := ⟨y 0, y 1, eq_ix2 y⟩
  blk_simp
  rw [after1_3, probsOut_eq]
  refine (probs_apply _ r (sims_real V c hs t r) e).trans ?_
  exact congrArg₂ (fun s e => probs (rowLogits s) e) (simRow_eq V c t h0 r ((win1_3.blk t).view.emb (ix2 r e) 0) (by blk_simp [index1 t]))
    (Fin.ext (by blk_simp [index1 t]))

open Classical in
theorem array1_2 : (dat1 (F := Ideal) V c).arrAt 2 cfg1.N = fun i : S16384x64.Idx => if marked (rowLogits (sims V c (i 0))) (i 1) then 1#32 else 0#32 := by
  refine (dat1 V c).arrAt_eq_of_covers 2 _ (by decide +kernel) fun t hf y => ?_
  have h0 := flush1_ne_zero 2 rfl t hf
  obtain ⟨r, e, rfl⟩ : ∃ (r : Fin 1024) (e : Fin 64), y = ix2 r e := ⟨y 0, y 1, eq_ix2 y⟩
  blk_simp
  rw [after1_2, maskOut_eq]
  refine (mask_apply _ r (sims_real V c hs t r) e).trans ?_
  exact congrArg₂ (fun s e => if marked (rowLogits s) e then 1#32 else 0#32) (simRow_eq V c t h0 r ((win1_2.blk t).view.emb (ix2 r e) 0) (by blk_simp [index1 t]))
    (Fin.ext (by blk_simp [index1 t]))

end Calls

/-! ### The program's results -/

section Results

variable (m : (ℓ : Loc nD τ sig) → Buf (Elt Ideal) ℓ) (ρ : Dev nD → PrngReg) (c : Dev nD)

/-- The logits of a token, from the argument arrays at entry. -/
def argLogits (t : Fin 16384) : Row :=
  tokenLogits (fun k => (m ((c : Thread nD τ).loc main_arg0) : FVec Ideal S16384x2048 .f32) (ix2 t k))
    fun e p k => (m ((c : Thread nD τ).loc main_arg1) : FVec Ideal S64x2x2048 .f32) (ix3 e p k)

theorem v1_apply (q : Fin 128) (k : Fin 2048) :
    (V1 m ρ c main_v1 : FVec Ideal S128x2048 .f32) (ix2 q k)
      = (m ((c : Thread nD τ).loc main_arg1) : FVec Ideal S64x2x2048 .f32) (ix3 ⟨q.val % 64, by omega⟩ ⟨q.val / 64, by omega⟩ k) := by
  unfold V1 W1
  after_results
  pointwise

theorem sims_eq (t : Fin 16384) (q : Fin 128) :
    sims (V2 m ρ) c t q
      = sim (fun k => (m ((c : Thread nD τ).loc main_arg0) : FVec Ideal S16384x2048 .f32) (ix2 t k))
          fun k => (m ((c : Thread nD τ).loc main_arg1) : FVec Ideal S64x2x2048 .f32) (ix3 ⟨q.val % 64, by omega⟩ ⟨q.val / 64, by omega⟩ k) := by
  have h2 : (V2 m ρ c main_v2 : FVec Ideal S128x2048 .f32) = _ := (W2_arr m ρ c 1).trans (array0 (V1 m ρ) c)
  have h0 : (V2 m ρ c main_arg0 : FVec Ideal S16384x2048 .f32) = m ((c : Thread nD τ).loc main_arg0) :=
    W2_args m ρ c main_arg0 (by decide)
  unfold sims sim
  rw [h2, h0]
  refine Finset.sum_congr rfl fun k _ => ?_
  congr 1
  exact congrFun (congrArg unit (funext fun k => v1_apply m ρ c q k)) k

theorem sims_real_V2 (t : Fin 16384) (q : Fin 128) : ∃ a : ℝ, sims (V2 m ρ) c t q = a := by
  rw [sims_eq]; exact sim_real _ _

theorem rowLogits_sims (t : Fin 16384) : rowLogits (sims (V2 m ρ) c t) = argLogits m c t := by
  funext e
  unfold rowLogits argLogits tokenLogits
  rw [sims_eq, sims_eq]
  congr 2 <;> congr 1 <;> funext k <;> blk_ext

theorem result_logits (t : Fin 16384) (e : Fin 64) :
    (W4 m ρ c main_v3_2 : FVec Ideal S16384x64 .f32) (ix2 t e) = argLogits m c t e := by
  rw [← rowLogits_sims m ρ c]
  exact congrFun ((W4_of m ρ c main_v3_2 (by decide)).trans ((W3_arr m ρ c 4).trans (array1_4 _ c (sims_real_V2 m ρ c)))) (ix2 t e)

theorem result_probs (t : Fin 16384) (e : Fin 64) :
    (W4 m ρ c main_v3_1 : FVec Ideal S16384x64 .f32) (ix2 t e) = probs (argLogits m c t) e := by
  rw [← rowLogits_sims m ρ c]
  exact congrFun ((W4_of m ρ c main_v3_1 (by decide)).trans ((W3_arr m ρ c 3).trans (array1_3 _ c (sims_real_V2 m ρ c)))) (ix2 t e)

theorem v6_apply (i : S16384x64.Idx) :
    (W4 m ρ c main_v6 : IVec S16384x64 1) i = BitVec.ofBool ((W3 m ρ c main_v3_0 : IVec S16384x64 32) i != 0#32) := by
  unfold W4
  after_results
  rfl

open Classical in
theorem result_mask (t : Fin 16384) (e : Fin 64) :
    (W4 m ρ c main_v6 : IVec S16384x64 1) (ix2 t e) = if marked (argLogits m c t) e then 1#1 else 0#1 := by
  rw [v6_apply, ← rowLogits_sims m ρ c]
  have h : (W3 m ρ c main_v3_0 : IVec S16384x64 32) (ix2 t e) = if marked (rowLogits (sims (V2 m ρ) c t)) e then 1#32 else 0#32 :=
    congrFun ((W3_arr m ρ c 2).trans (array1_2 _ c (sims_real_V2 m ρ c))) (ix2 t e)
  rw [h]
  by_cases hk : marked (rowLogits (sims (V2 m ρ) c t)) e
  · rw [if_pos hk, if_pos hk]; rfl
  · rw [if_neg hk, if_neg hk]; rfl

end Results

end Cert.KernelIdeal.Router

end
-- ==== Proof.Reference.lean ====
/- What the reference's float results hold, entry by entry: the logits of each token and its probabilities. The mask is
   read in Mask.lean. -/
module

public import proofs.«01_k».proof.Proof.Gen.ReferenceIdeal.Read
public import proofs.«01_k».proof.Proof.Gen.On_decided
public import proofs.«01_k».proof.Proof.Scalar
public import Idealize.ShloMosaic.Lib.Pointwise

@[expose] public section

set_option maxRecDepth 16384

noncomputable section

namespace Cert.ReferenceIdeal.Router

open Cert.ReferenceIdeal Cert.ReferenceIdeal.Gen Cert.ReferenceIdeal.Read
open Idealize.ShloMosaic
open Cert.Router

theorem ofBits_zero_f32 : Ideal.ofBits .f32 0x00000000#32 = 0 := by
  simp [Ideal.ofBits, Ideal.ieee]

section Rows

variable (x0 : FVec Ideal S16384x2048 .f32) (x1 : FVec Ideal S64x2x2048 .f32)

theorem v4_apply (t : Fin 16384) (k : Fin 2048) :
    val_main_v4 (F := Ideal) x0 (ix2 t k) = unit (fun k => x0 (ix2 t k)) k := by
  pointwise [val_main_v4, val_main_v3, val_main_v2, val_main_v1, val_main_v0, val_main_cst, val_main_call0_v2, val_main_call0_v1, val_main_call0_v0, val_main_call0_cst]
  rfl

theorem v9_apply (e : Fin 64) (p : Fin 2) (k : Fin 2048) :
    val_main_v9 (F := Ideal) x1 (ix3 e p k) = unit (fun k => x1 (ix3 e p k)) k := by
  pointwise [val_main_v9, val_main_v8, val_main_v7, val_main_v6, val_main_v5, val_main_cst_0, val_main_call1_v2, val_main_call1_v1, val_main_call1_v0, val_main_call1_cst]
  rfl

theorem v10_apply (t : Fin 16384) (e : Fin 64) (p : Fin 2) :
    val_main_v10 (F := Ideal) x0 x1 (ix3 t e p) = sim (fun k => x0 (ix2 t k)) (fun k => x1 (ix3 e p k)) := by
  rw [val_main_v10_apply]
  have hl : ∀ k, lidx_main_v10 (ix3 t e p) k = ix2 t k := fun k => funext fun a => by
    match a with
    | ⟨0, _⟩ => rfl
    | ⟨1, _⟩ => rfl
  have hr : ∀ k, ridx_main_v10 (ix3 t e p) k = ix3 e p k := fun k => funext fun a => by
    match a with
    | ⟨0, _⟩ => rfl
    | ⟨1, _⟩ => rfl
    | ⟨2, _⟩ => rfl
  simp only [hl, hr]
  exact Finset.sum_congr rfl fun k _ => congrArg₂ (· * ·) (v4_apply x0 t k) (v9_apply x1 e p k)

/-- A token's logits, from the argument arrays. -/
abbrev rowL (t : Fin 16384) : Row := tokenLogits (fun k => x0 (ix2 t k)) fun e p k => x1 (ix3 e p k)

theorem v12_apply (t : Fin 16384) (e : Fin 64) :
    val_main_v12 (F := Ideal) x0 x1 (ix2 t e)
      = Ideal.exp (sim (fun k => x0 (ix2 t k)) fun k => x1 (ix3 e 0 k)) + Ideal.exp (sim (fun k => x0 (ix2 t k)) fun k => x1 (ix3 e 1 k)) := by
  have hi : ∀ p, idx_main_v12 (ix2 t e) p = ix3 t e p := fun p => funext fun a => by
    match a with
    | ⟨0, _⟩ => rfl
    | ⟨1, _⟩ => rfl
    | ⟨2, _⟩ => rfl
  have h : ∀ p, val_main_v11 (F := Ideal) x0 x1 (ix3 t e p) = Ideal.exp (sim (fun k => x0 (ix2 t k)) fun k => x1 (ix3 e p k)) := fun p => by
    rw [val_main_v11_apply, v10_apply]
    rfl
  rw [val_main_v12_apply, val_main_cst_1_apply, Fin.sum_univ_two, hi, hi, h, h, show FloatOps.ofBits (F := Ideal) .f32 0x00000000#32 = (0 : EReal) from ofBits_zero_f32, zero_add]

theorem v15_apply (t : Fin 16384) (e : Fin 64) : val_main_v15 (F := Ideal) x0 x1 (ix2 t e) = rowL x0 x1 t e := by
  rw [val_main_v15_apply, val_main_v14_apply, val_main_cst_2_apply, val_main_v13_apply, v12_apply]
  show Ideal.ofBits .f32 0x41200000#32 * Ideal.log _ = _
  rw [ofBits_ten]
  rfl

theorem ofBits_one_f32 : Ideal.ofBits .f32 0x3F800000#32 = ((1 : ℝ) : EReal) := by
  simp [Ideal.ofBits, Ideal.ieee, -EReal.coe_mul]
  norm_num

theorem clamp : max (Ideal.ofBits .f32 0x358637BD#32) (Ideal.ofBits .f32 0x3F800000#32) = ((1 : ℝ) : EReal) := by
  rw [ofBits_one_f32]
  refine max_eq_right ?_
  simp [Ideal.ofBits, Ideal.ieee, -EReal.coe_mul]
  rw [← EReal.coe_one, EReal.coe_le_coe_iff]
  norm_num

theorem div_one' (x : EReal) : Ideal.div x ((1 : ℝ) : EReal) = x := by
  rw [div_of_ne (by simp)]
  simp

/-- The temperature, held to at least `eps`, is one. -/
theorem v18_apply (i : S16384x64.Idx) : val_main_v18 (F := Ideal) i = ((1 : ℝ) : EReal) := by
  rw [val_main_v18_apply, val_main_v17_apply, val_main_v16_apply]
  exact clamp
theorem v27_apply (i : S16384x64.Idx) : val_main_v27 (F := Ideal) i = ((1 : ℝ) : EReal) := by
  rw [val_main_v27_apply, val_main_v26_apply, val_main_v25_apply]
  exact clamp

theorem v19_apply (t : Fin 16384) (e : Fin 64) : val_main_v19 (F := Ideal) x0 x1 (ix2 t e) = rowL x0 x1 t e := by
  rw [val_main_v19_apply, v18_apply, v15_apply]
  exact div_one' _
theorem v28_apply (t : Fin 16384) (e : Fin 64) : val_main_v28 (F := Ideal) x0 x1 (ix2 t e) = rowL x0 x1 t e := by
  rw [val_main_v28_apply, v27_apply, v15_apply]
  exact div_one' _

/-- A row's greatest logit. -/
theorem v33_apply (t : Fin 16384) (e : Fin 64) : val_main_v33 (F := Ideal) x0 x1 (ix2 t e) = best (rowL x0 x1 t) := by
  have h29 : val_main_v29 (F := Ideal) x0 x1 (ix1 t) = best (rowL x0 x1 t) := by
    unfold val_main_v29
    generalize hv : val_main_v28 (F := Ideal) x0 x1 = v
    have hr : (fun e => v (ix2 t e)) = rowL x0 x1 t := funext fun e => by rw [← hv]; exact v28_apply x0 x1 t e
    pointwise [val_main_cst_9]
    exact (congrArg (fun y => Finset.fold max (Ideal.ofBits .f32 0xFF800000#32) y Finset.univ) hr).trans (fold_best _)
  have hi : idx_main_v32 (idx_main_v33 (ix2 t e)) = ix1 t := funext fun a => by
    match a with
    | ⟨0, _⟩ => rfl
  rw [val_main_v33_apply, val_main_v32_apply, hi, val_main_v31_apply, val_main_v30_apply, val_main_cst_10_apply, h29]
  show max (Ideal.ofBits .f32 0xFF800000#32) _ = _
  rw [ofBits_bot, max_eq_right bot_le]

theorem v35_apply (t : Fin 16384) (e : Fin 64) :
    val_main_v35 (F := Ideal) x0 x1 (ix2 t e) = Ideal.exp (rowL x0 x1 t e - best (rowL x0 x1 t)) := by
  rw [val_main_v35_apply, val_main_v34_apply, v28_apply, v33_apply]
  rfl

theorem v38_apply (t : Fin 16384) (e : Fin 64) :
    val_main_v38 (F := Ideal) x0 x1 (ix2 t e) = ∑ k, Ideal.exp (rowL x0 x1 t k - best (rowL x0 x1 t)) := by
  have hi : ∀ k, idx_main_v36 (idx_main_v37 (idx_main_v38 (ix2 t e))) k = ix2 t k := fun k => funext fun a => by
    match a with
    | ⟨0, _⟩ => rfl
    | ⟨1, _⟩ => rfl
  rw [val_main_v38_apply, val_main_v37_apply, val_main_v36_apply, val_main_cst_11_apply,
    show FloatOps.ofBits (F := Ideal) .f32 0x00000000#32 = (0 : EReal) from ofBits_zero_f32, zero_add]
  exact Finset.sum_congr rfl fun k _ => by rw [hi, v35_apply]

theorem v39_apply (t : Fin 16384) (e : Fin 64) : val_main_v39 (F := Ideal) x0 x1 (ix2 t e) = probs (rowL x0 x1 t) e := by
  rw [val_main_v39_apply, v35_apply, v38_apply]
  exact probs_shift _ (tokenLogits_real _ _) _ (best_real _ (tokenLogits_real _ _)) e

end Rows

end Cert.ReferenceIdeal.Router

end
-- ==== Proof.TopK.lean ====
/- A top-k along the rows of a matrix of 64 columns, at the extended reals: the positions in the row's order, and the
   entries there. -/
module

public import proofs.«01_k».proof.Proof.Scalar
public import Idealize.ShloMosaic.Lib.Pointwise

@[expose] public section

set_option maxRecDepth 16384

noncomputable section

namespace Cert.Router

open Idealize.ShloMosaic

variable {n : ℕ}

/-- The shape of a matrix of 64 columns. -/
abbrev Mat (n : ℕ) : Shape := ⟨2, ![n, 64]⟩

theorem along_row (t : Fin n) (q k : Fin 64) : Shape.Idx.along (s := Mat n) (ix2 t q) ⟨1, Nat.one_lt_two⟩ k = ix2 t k := by
  funext a
  match a with
  | ⟨0, _⟩ => rfl
  | ⟨1, _⟩ => rfl

theorem gt_eq (a b : EReal) : (FloatOps.cmpfTotal (F := Ideal) (φ := .f32) CmpDirection.gt a b == 1#1) = decide (b < a) := by
  rw [Ideal.cmpfTotal_def]
  show (BitVec.ofBool (decide (b < a)) == 1#1) = _
  cases decide (b < a) <;> rfl

theorem sort_row {α β : Type} (before : α × β → α × β → BitVec 1) (x : (Mat n).Idx → α) (y : (Mat n).Idx → β) (t : Fin n) (q : Fin 64) :
    (Host.sort2 (Mat n) 1 before x y).1 (ix2 t q)
        = x (ix2 t (sortedFrom (fun k k' => before (x (ix2 t k), y (ix2 t k)) (x (ix2 t k'), y (ix2 t k')) == 1#1) q))
    ∧ (Host.sort2 (Mat n) 1 before x y).2 (ix2 t q)
        = y (ix2 t (sortedFrom (fun k k' => before (x (ix2 t k), y (ix2 t k)) (x (ix2 t k'), y (ix2 t k')) == 1#1) q)) := by
  have key : ∀ {γ : Type} (z : (Mat n).Idx → γ) (f : Fin 64 → (Mat n).Idx), (∀ k, f k = ix2 t k) →
      z (f (sortedFrom (fun k k' => before (x (f k), y (f k)) (x (f k'), y (f k')) == 1#1) q))
        = z (ix2 t (sortedFrom (fun k k' => before (x (ix2 t k), y (ix2 t k)) (x (ix2 t k'), y (ix2 t k')) == 1#1) q)) := by
    intro γ z f hf
    obtain rfl : f = fun k => ix2 t k := funext hf
    rfl
  unfold Host.sort2
  rw [dif_pos (Nat.one_lt_two : 1 < (Mat n).rank)]
  exact ⟨key x _ (along_row t q), key y _ (along_row t q)⟩

theorem order_of_gt (x : FVec Ideal (Mat n) .f32) (t : Fin n) (q : Fin 64) :
    sortedFrom (fun k k' : Fin 64 => FloatOps.cmpfTotal (F := Ideal) (φ := .f32) CmpDirection.gt (x (ix2 t k)) (x (ix2 t k')) == 1#1) q
      = order (fun e => x (ix2 t e)) q := by
  simp only [gt_eq]
  rfl

theorem firsts_apply {α : Type} {w : ℕ} (hw : w ≤ 64) (v : (Mat n).Idx → α) (h : (Mat n).Slices (fun _ => 0) ⟨2, ![n, w]⟩) (t : Fin n) (r : Fin w) :
    extractStridedSlice ⟨2, ![n, w]⟩ (fun _ => 0) v h (ix2 t r) = v (ix2 t (r.castLE hw)) := by
  unfold extractStridedSlice
  refine congrArg v (funext fun a => Fin.ext ?_)
  match a with
  | ⟨0, _⟩ => exact Nat.zero_add _
  | ⟨1, _⟩ => exact Nat.zero_add _

variable {w : ℕ} (hw : w ≤ 64) (x : FVec Ideal (Mat n) .f32) (h : (Mat n).Slices (fun _ => 0) ⟨2, ![n, w]⟩) (t : Fin n) (r : Fin w)

theorem topK_values :
    (Host.topK ⟨2, ![n, w]⟩ 1 (FloatOps.cmpfTotal .gt) x h).1 (ix2 t r) = x (ix2 t (order (fun e => x (ix2 t e)) (r.castLE hw))) := by
  unfold Host.topK
  dsimp only
  refine (firsts_apply hw _ h t r).trans ((sort_row _ x _ t _).1.trans ?_)
  dsimp only
  rw [order_of_gt]

theorem topK_places :
    (Host.topK ⟨2, ![n, w]⟩ 1 (FloatOps.cmpfTotal .gt) x h).2 (ix2 t r) = BitVec.ofNat 32 (order (fun e => x (ix2 t e)) (r.castLE hw)).val := by
  unfold Host.topK
  dsimp only
  refine (firsts_apply hw _ h t r).trans ((sort_row _ x _ t _).2.trans ?_)
  dsimp only
  rw [order_of_gt, dif_pos (Nat.one_lt_two : 1 < (Mat n).rank)]
  rfl

end Cert.Router

end
-- ==== Proof.Mask.lean ====
/- The reference's mask, entry by entry: set at the first eight experts in descending order of a token's logits. And the
   claim's mask: set on the rows in which the nine greatest logits hold at most one tie between neighbours. -/
module

public import proofs.«01_k».proof.Proof.Reference
public import proofs.«01_k».proof.Proof.TopK

@[expose] public section

set_option maxRecDepth 16384

noncomputable section

namespace Cert.ReferenceIdeal.Router

open Cert.ReferenceIdeal Cert.ReferenceIdeal.Gen Cert.ReferenceIdeal.Read
open Idealize.ShloMosaic
open Cert.Router

section Rows

variable (x0 : FVec Ideal S16384x2048 .f32) (x1 : FVec Ideal S64x2x2048 .f32)

/-- How many of a finite set of positions satisfy a condition, summed as numbers. -/
theorem sum_marks {ι : Type} [Fintype ι] (p : ι → Prop) [DecidablePred p] :
    (∑ x : ι, FloatOps.uitofp (F := Ideal) .f32 (BitVec.ofBool (decide (p x)))) = (((Finset.univ.filter p).card : ℝ) : EReal) := by
  have h : ∀ x, FloatOps.uitofp (F := Ideal) .f32 (BitVec.ofBool (decide (p x))) = (((if p x then 1 else 0 : ℝ)) : EReal) := fun x => by
    show (((BitVec.ofBool (decide (p x))).toNat : ℝ) : EReal) = _
    by_cases hp : p x <;> simp [hp]
  rw [Finset.sum_congr rfl fun x _ => h x, sum_real, Finset.sum_boole]

/-- A count compared with zero: whether there is one at all. -/
theorem some_mark {ι : Type} [Fintype ι] (p : ι → Prop) [DecidablePred p] [Decidable (∃ x, p x)] :
    FloatOps.cmpf (F := Ideal) .une (((Finset.univ.filter p).card : ℝ) : EReal) (Ideal.ofBits .f32 0x00000000#32) = BitVec.ofBool (decide (∃ x, p x)) := by
  generalize hn : (Finset.univ.filter p).card = n
  have h : FloatOps.cmpf (F := Ideal) .une ((n : ℝ) : EReal) (Ideal.ofBits .f32 0x00000000#32) = BitVec.ofBool (decide (((n : ℝ) : EReal) ≠ (0 : EReal))) := by
    rw [ofBits_zero_f32]; rfl
  rw [h]
  refine congrArg BitVec.ofBool (decide_eq_decide.mpr ?_)
  rw [← EReal.coe_zero, Ne, EReal.coe_eq_coe_iff, Nat.cast_eq_zero, ← hn, Finset.card_eq_zero, Finset.filter_eq_empty_iff]
  push Not
  simp

/-- A count compared with one. -/
theorem one_mark {ι : Type} [Fintype ι] (p : ι → Prop) [DecidablePred p]
    (h : FloatOps.cmpf (F := Ideal) .ole (((Finset.univ.filter p).card : ℝ) : EReal) (Ideal.ofBits .f32 0x3F800000#32) = 1#1) : (Finset.univ.filter p).card ≤ 1 := by
  generalize (Finset.univ.filter p).card = n at h
  rw [ofBits_one_f32] at h
  have h' : BitVec.ofBool (decide (((n : ℝ) : EReal) ≤ ((1 : ℝ) : EReal))) = 1#1 := h
  have h2 : ((n : ℝ) : EReal) ≤ ((1 : ℝ) : EReal) := by
    by_contra hc
    rw [decide_eq_false hc] at h'; exact absurd h' (by decide)
  exact_mod_cast EReal.coe_le_coe_iff.mp h2

theorem place_eq (a b : Fin 64) : IntOp.cmpi .eq (BitVec.ofNat 32 a.val) (BitVec.ofNat 32 b.val) = BitVec.ofBool (decide (a = b)) := by
  revert a b; decide

theorem indices_apply (t : Fin 16384) (r : Fin 8) :
    val_main_indices (F := Ideal) x0 x1 (ix2 t r) = BitVec.ofNat 32 (order (rowL x0 x1 t) (r.castLE (by decide))).val := by
  unfold val_main_indices
  refine (topK_places (by decide) _ _ t r).trans ?_
  rw [show (fun e => val_main_v19 (F := Ideal) x0 x1 (ix2 t e)) = rowL x0 x1 t from funext fun e => v19_apply x0 x1 t e]

theorem v20_apply (t : Fin 16384) (r : Fin 8) (e : Fin 64) :
    val_main_v20 (F := Ideal) x0 x1 (ix3 t r e)
      = FloatOps.uitofp (F := Ideal) .f32 (BitVec.ofBool (decide (order (rowL x0 x1 t) (r.castLE (by decide)) = e))) := by
  have hi : idx_main_call3_v0 (idx_main_call3_v2 (ix3 t r e)) = ix2 t r := funext fun a => by
    match a with
    | ⟨0, _⟩ => rfl
    | ⟨1, _⟩ => rfl
  rw [val_main_v20_apply, val_main_call3_v4_apply, val_main_call3_v2_apply, val_main_call3_v0_apply, val_main_call3_v3_apply,
    val_main_call3_v1_apply, hi, indices_apply, ← place_eq]
  rfl

theorem v24_apply (t : Fin 16384) (e : Fin 64) :
    val_main_v24 (F := Ideal) x0 x1 (ix2 t e)
      = BitVec.ofBool (decide (∃ r : Fin 8, order (rowL x0 x1 t) (r.castLE (by decide)) = e)) := by
  have hi : ∀ r, idx_main_v21 (ix2 t e) r = ix3 t r e := fun r => funext fun a => by
    match a with
    | ⟨0, _⟩ => rfl
    | ⟨1, _⟩ => rfl
    | ⟨2, _⟩ => rfl
  have h21 : val_main_v21 (F := Ideal) x0 x1 (ix2 t e)
      = (((Finset.univ.filter fun r : Fin 8 => order (rowL x0 x1 t) (r.castLE (by decide)) = e).card : ℝ) : EReal) := by
    rw [val_main_v21_apply, val_main_cst_5_apply, ← sum_marks]
    simp only [hi, v20_apply]
    rw [show FloatOps.ofBits (F := Ideal) .f32 0x00000000#32 = (0 : EReal) from ofBits_zero_f32, zero_add]
  rw [val_main_v24_apply, val_main_v23_apply, val_main_v22_apply, val_main_cst_6_apply, h21]
  exact some_mark _

end Rows

/-! ### The claim's mask -/

section Decided

open Cert.On_decided.Gen

variable (x0 : FVec Ideal S16384x2048 .f32) (x1 : FVec Ideal S64x2x2048 .f32)

variable (L : FVec Ideal S16384x64 .f32)

/-- The places at which one of the nine greatest logits equals the one before it. -/
abbrev ties (x : Row) : Finset (Fin 8) := Finset.univ.filter fun r : Fin 8 => x (order x ⟨r.val + 1, by omega⟩) = x (order x ⟨r.val, by omega⟩)

/-- The nine greatest logits of each token. -/
def nine : FVec Ideal Cert.On_decided.S16384x9 .f32 :=
  (Host.topK Cert.On_decided.S16384x9 1 (FloatOps.cmpfTotal .gt) L Cert.On_decided.Facts.sliceFits_S16384x64_S16384x9).1

/-- Where neighbours among them agree. -/
def agree : FVec Ideal Cert.On_decided.S16384x8 .f32 :=
  uitofp .f32 (cmpf .oeq (extractStridedSlice Cert.On_decided.S16384x8 ![0, 1] (nine L) Cert.On_decided.Facts.slices_S16384x9_S16384x8_0_1)
    (extractStridedSlice Cert.On_decided.S16384x8 ![0, 0] (nine L) Cert.On_decided.Facts.slices_S16384x9_S16384x8_0_0))

/-- Whether at most one pair of neighbours does, at each of a token's entries. -/
def atMostOne : IVec S16384x64 1 :=
  broadcastInDim S16384x64 ![0, 1] Cert.On_decided.Facts.bcast_S16384x1_S16384x64_0_1
    (cmpf .ole
      (broadcastInDim S16384x1 ![0] Cert.On_decided.Facts.bcast_S16384_S16384x1_0
        (Host.reduceAdd (agree L) (constant S_ .f32 0x00000000#32) Cert.On_decided.Facts.reducesTo_S16384x8_S16384_d1 Cert.On_decided.Facts.h_S_))
      (broadcastInDim S16384x1 ![] Cert.On_decided.Facts.bcast_S_S16384x1 (constant S_ .f32 0x3F800000#32)))

theorem part_eq (v : FVec Ideal S16384x64 .f32) :
    (Cert.On_decided.fn_part1 (F := Ideal) v).1
      = atMostOne (mulf (broadcastInDim S16384x64 ![] Cert.On_decided.Facts.bcast_S_S16384x64 (constant S_ .f32 0x41200000#32)) (Host.log v)) := by
  unfold Cert.On_decided.fn_part1 atMostOne agree nine
  dsimp only

theorem fn_eq : Cert.On_decided.fn (F := Ideal) x0 x1 = Cert.On_decided.fn_part1 (F := Ideal) (val_main_v12 (F := Ideal) x0 x1) := by
  unfold Cert.On_decided.fn
  dsimp only
  unfold val_main_v12 val_main_v11 val_main_v10 val_main_v9 val_main_v8 val_main_v7 val_main_v6 val_main_v5 val_main_v4 val_main_v3 val_main_v2 val_main_v1 val_main_v0
  rfl

/-- The claim's mask is read off the reference's own logits. -/
theorem decided_eq : (Cert.On_decided.fn (F := Ideal) x0 x1).1 = atMostOne (val_main_v15 (F := Ideal) x0 x1) := by
  rw [fn_eq, part_eq]
  refine congrArg atMostOne ?_
  unfold val_main_v15 val_main_v14 val_main_v13 val_main_cst_2
  rfl

theorem nine_apply (t : Fin 16384) (r : Fin 9) :
    nine L (ix2 t r) = L (ix2 t (order (fun e => L (ix2 t e)) (r.castLE (by decide)))) :=
  topK_values (by decide) _ _ t r

theorem agree_apply (t : Fin 16384) (r : Fin 8) :
    agree L (ix2 t r) = FloatOps.uitofp (F := Ideal) .f32 (BitVec.ofBool (decide
      (L (ix2 t (order (fun e => L (ix2 t e)) ⟨r.val + 1, by omega⟩)) = L (ix2 t (order (fun e => L (ix2 t e)) ⟨r.val, by omega⟩))))) := by
  have h1 : extractStridedSlice Cert.On_decided.S16384x8 ![0, 1] (nine L) Cert.On_decided.Facts.slices_S16384x9_S16384x8_0_1 (ix2 t r)
      = nine L (ix2 t ⟨r.val + 1, by omega⟩) := by
    generalize nine L = v
    pointwise
    exact congrArg (fun q => v (ix2 t q)) (Fin.ext (Nat.add_comm _ _))
  have h2 : extractStridedSlice Cert.On_decided.S16384x8 ![0, 0] (nine L) Cert.On_decided.Facts.slices_S16384x9_S16384x8_0_0 (ix2 t r)
      = nine L (ix2 t ⟨r.val, by omega⟩) := by
    generalize nine L = v
    pointwise
  show FloatOps.uitofp (F := Ideal) .f32 (FloatOps.cmpf (F := Ideal) .oeq (extractStridedSlice _ _ _ _ _) (extractStridedSlice _ _ _ _ _)) = _
  rw [h1, h2, nine_apply, nine_apply]
  rfl

theorem atMostOne_apply (t : Fin 16384) (e : Fin 64) (h : atMostOne L (ix2 t e) = 1#1) : (ties fun e => L (ix2 t e)).card ≤ 1 := by
  have hs : (∑ r : Fin 8, agree L (ix2 t r)) = (((ties fun e => L (ix2 t e)).card : ℝ) : EReal) := by
    rw [← sum_marks]
    exact Finset.sum_congr rfl fun r _ => agree_apply L t r
  have hr : atMostOne L (ix2 t e) = FloatOps.cmpf (F := Ideal) .ole (∑ r : Fin 8, agree L (ix2 t r)) (Ideal.ofBits .f32 0x3F800000#32) := by
    unfold atMostOne
    generalize agree L = v
    pointwise
  rw [hr, hs] at h
  exact one_mark _ h

/-- Where the claim's mask is set, at most eight of the token's logits lie above the eighth round's. -/
theorem decided_above (t : Fin 16384) (e : Fin 64) (h : (Cert.On_decided.fn (F := Ideal) x0 x1).1 (ix2 t e) = 1#1) :
    (above (rowL x0 x1 t)).card ≤ 8 := by
  rw [decided_eq] at h
  have hr : (fun e => val_main_v15 (F := Ideal) x0 x1 (ix2 t e)) = rowL x0 x1 t := funext fun e => v15_apply x0 x1 t e
  exact card_above_le _ (hr ▸ atMostOne_apply _ t e h)

end Decided

end Cert.ReferenceIdeal.Router

end
-- ==== Proof.Value.lean ====
/- The value claim: both programs' results, entry by entry, are the same functions of a token's logits. The probabilities
   and the two logit results agree everywhere; the masks agree on the rows the claim's mask keeps. -/
module

public import proofs.«01_k».proof.Defs
public import proofs.«01_k».proof.Proof.Array
public import proofs.«01_k».proof.Proof.Mask
public import proofs.«01_k».proof.Proof.Gen.ReferenceIdeal.Run
public import proofs.«01_k».proof.Proof.Gen.On_decided

@[expose] public section

set_option maxRecDepth 16384

noncomputable section

namespace Cert.Proof

open Idealize.ShloMosaic Idealize.SL.Sem
open Cert.Router Cert.ReferenceIdeal.Read Cert.ReferenceIdeal.Router Cert.KernelIdeal.Router

/-- The kernel's arguments on a core. -/
abbrev arg0 (m : (ℓ : Loc Cert.KernelIdeal.nD Cert.KernelIdeal.τ Cert.KernelIdeal.sig) → Buf (Elt Ideal) ℓ) (c : Dev Cert.KernelIdeal.nD) :
    FVec Ideal Cert.KernelIdeal.S16384x2048 .f32 := m ((c.tc : Thread Cert.KernelIdeal.nD Cert.KernelIdeal.τ).loc Cert.KernelIdeal.main_arg0)
abbrev arg1 (m : (ℓ : Loc Cert.KernelIdeal.nD Cert.KernelIdeal.τ Cert.KernelIdeal.sig) → Buf (Elt Ideal) ℓ) (c : Dev Cert.KernelIdeal.nD) :
    FVec Ideal Cert.KernelIdeal.S64x2x2048 .f32 := m ((c.tc : Thread Cert.KernelIdeal.nD Cert.KernelIdeal.τ).loc Cert.KernelIdeal.main_arg1)

section Results

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD)

theorem logits_eq : val_main_v15 (F := Ideal) (arg0 m c) (arg1 m c) = W4 m ρ c (Proc.devRef .tc Cert.KernelIdeal.main_v3_2) := by
  funext i
  obtain ⟨t, e, rfl⟩ : ∃ (t : Fin 16384) (e : Fin 64), i = ix2 t e := ⟨i 0, i 1, eq_ix2 i⟩
  exact (v15_apply _ _ t e).trans (result_logits m ρ c t e).symm

theorem scaled_eq : val_main_v19 (F := Ideal) (arg0 m c) (arg1 m c) = W4 m ρ c (Proc.devRef .tc Cert.KernelIdeal.main_v3_2) := by
  funext i
  obtain ⟨t, e, rfl⟩ : ∃ (t : Fin 16384) (e : Fin 64), i = ix2 t e := ⟨i 0, i 1, eq_ix2 i⟩
  exact (v19_apply _ _ t e).trans (result_logits m ρ c t e).symm

theorem probs_eq : val_main_v39 (F := Ideal) (arg0 m c) (arg1 m c) = W4 m ρ c (Proc.devRef .tc Cert.KernelIdeal.main_v3_1) := by
  funext i
  obtain ⟨t, e, rfl⟩ : ∃ (t : Fin 16384) (e : Fin 64), i = ix2 t e := ⟨i 0, i 1, eq_ix2 i⟩
  exact (v39_apply _ _ t e).trans (result_probs m ρ c t e).symm

/-- Where the claim's mask is set the eight rounds mark exactly the first eight experts. -/
theorem mask_eq (i : (⟨2, ![16384, 64]⟩ : Shape).Idx) (h : (Cert.On_decided.fn (F := Ideal) (arg0 m c) (arg1 m c)).1 i = 1#1) :
    val_main_v24 (F := Ideal) (arg0 m c) (arg1 m c) i = (W4 m ρ c (Proc.devRef .tc Cert.KernelIdeal.main_v6) : IVec Cert.KernelIdeal.S16384x64 1) i := by
  obtain ⟨t, e, rfl⟩ : ∃ (t : Fin 16384) (e : Fin 64), i = ix2 t e := ⟨i 0, i 1, eq_ix2 i⟩
  have hx : ∀ e, rowL (arg0 m c) (arg1 m c) t e ≠ ⊥ := fun e => by
    obtain ⟨a, ha⟩ := tokenLogits_real (fun k => arg0 m c (ix2 t k)) (fun e p k => arg1 m c (ix3 e p k)) e
    rw [show rowL (arg0 m c) (arg1 m c) t e = _ from ha]
    exact EReal.coe_ne_bot a
  refine (v24_apply _ _ t e).trans (Eq.trans ?_ (result_mask m ρ c t e).symm)
  have hm := marked_iff hx (decided_above _ _ t e h) e
  rw [show argLogits m c t = rowL (arg0 m c) (arg1 m c) t from rfl]
  by_cases hp : marked (rowL (arg0 m c) (arg1 m c) t) e
  · rw [if_pos hp, decide_eq_true (hm.mp hp)]; rfl
  · rw [if_neg hp, decide_eq_false fun q => hp (hm.mpr q)]; rfl

end Results

theorem algebraic : Cert.algebraic_KernelIdeal_ReferenceIdeal_on_decided (hKernelIdeal := Cert.KernelIdeal.Gen.facts)
    (hReferenceIdeal := Cert.ReferenceIdeal.Gen.facts) (hOn_decided := Cert.On_decided.Gen.facts) := by
  intro m ρ m' ρ' _ hagree
  refine ⟨fun c => W4 m ρ c (Proc.devRef .tc Cert.KernelIdeal.main_v6), fun c => W4 m ρ c (Proc.devRef .tc Cert.KernelIdeal.main_v3_1),
    fun c => W4 m ρ c (Proc.devRef .tc Cert.KernelIdeal.main_v3_2), fun c => W4 m ρ c (Proc.devRef .tc Cert.KernelIdeal.main_v3_2), ?_, ?_⟩
  · refine (θ_run Cert.KernelIdeal.defs _ _).mono (fun _ h c => ⟨fun i _ => ?_, fun i _ => ?_, fun i _ => ?_, fun i _ => ?_, ?_, ?_⟩)
      (Cert.KernelIdeal.Router.run (F := Ideal) m ρ)
    · exact congrFun (h.1 c _ (mem_uc Cert.KernelIdeal.main_v6 (by decide))) i
    · exact congrFun (h.1 c _ (mem_uc Cert.KernelIdeal.main_v3_1 (by decide))) i
    · exact congrFun (h.1 c _ (mem_uc Cert.KernelIdeal.main_v3_2 (by decide))) i
    · exact congrFun (h.1 c _ (mem_uc Cert.KernelIdeal.main_v3_2 (by decide))) i
    · exact (h.1 c _ (mem_uc Cert.KernelIdeal.main_arg0 (by decide))).trans (W4_args m ρ c Cert.KernelIdeal.main_arg0 (by decide))
    · exact (h.1 c _ (mem_uc Cert.KernelIdeal.main_arg1 (by decide))).trans (W4_args m ρ c Cert.KernelIdeal.main_arg1 (by decide))
  · refine (θ_run Cert.ReferenceIdeal.defs _ _).mono (fun _ h c => ⟨fun i hi => ?_, fun i _ => ?_, fun i _ => ?_, fun i _ => ?_, (h c).2.2.2.2⟩)
      (Cert.ReferenceIdeal.Value.run (F := Ideal) m' ρ')
    · refine (congrFun (((h c).1).trans (val_main_v24_eq _ _)) i).trans ?_
      rw [(hagree c).1, (hagree c).2]
      exact mask_eq m ρ c i hi
    · refine congrFun (((h c).2.1).trans ((val_main_v39_eq m' c).trans ?_)) i
      rw [(hagree c).1, (hagree c).2]
      exact probs_eq m ρ c
    · refine congrFun (((h c).2.2.1).trans ((val_main_v15_eq _ _).trans ?_)) i
      rw [(hagree c).1, (hagree c).2]
      exact logits_eq m ρ c
    · refine congrFun (((h c).2.2.2.1).trans ((val_main_v19_eq _ _).trans ?_)) i
      rw [(hagree c).1, (hagree c).2]
      exact scaled_eq m ρ c

end Cert.Proof

end
-- ==== Proof.lean ====
module

public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, Cert.On_decided.Gen.facts, frame_p, frame_pi, frame_ri, trivial,
    algebraic⟩

end Cert.Proof

end
